-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_zero [hPre_mask_zero : Cert.Pre_mask_zero.Facts] (m : (ℓ : Loc Cert.KernelIdeal.nD Cert.KernelIdeal.τ Cert.KernelIdeal.sig) → Buf (Elt Ideal) ℓ) : Prop :=
  ∀ c : Dev Cert.KernelIdeal.nD,
    (Cert.Pre_mask_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_zero [hPre_mask_zero : Cert.Pre_mask_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_mask_zero [hKernelIdeal : Cert.KernelIdeal.Facts] [hPre_mask_zero : Cert.Pre_mask_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_mask_zero [hReferenceIdeal : Cert.ReferenceIdeal.Facts] [hPre_mask_zero : Cert.Pre_mask_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_mask_zero [hKernelIdeal : Cert.KernelIdeal.Facts] [hReferenceIdeal : Cert.ReferenceIdeal.Facts] [hPre_mask_zero : Cert.Pre_mask_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_mask_zero : Cert.Pre_mask_zero.Facts),
    quiescent_Kernel (hKernel := hKernel)
    ∧ quiescent_KernelIdeal (hKernelIdeal := hKernelIdeal)
    ∧ quiescent_KernelIdeal_pre_mask_zero (hKernelIdeal := hKernelIdeal) (hPre_mask_zero := hPre_mask_zero)
    ∧ quiescent_ReferenceIdeal (hReferenceIdeal := hReferenceIdeal)
    ∧ quiescent_ReferenceIdeal_pre_mask_zero (hReferenceIdeal := hReferenceIdeal) (hPre_mask_zero := hPre_mask_zero)
    ∧ preserves_Kernel_KernelIdeal
    ∧ algebraic_KernelIdeal_ReferenceIdeal_pre_mask_zero (hKernelIdeal := hKernelIdeal) (hReferenceIdeal := hReferenceIdeal) (hPre_mask_zero := hPre_mask_zero)
-- ==== Pre_mask_zero.lean ====
abbrev S1x2048x2048 : Shape := ⟨3, ![1, 2048, 2048]⟩
abbrev S1x2048x1536 : Shape := ⟨3, ![1, 2048, 1536]⟩
abbrev S1x2048x64 : Shape := ⟨3, ![1, 2048, 64]⟩
abbrev S1536x2048 : Shape := ⟨2, ![1536, 2048]⟩
abbrev S2048x128 : Shape := ⟨2, ![2048, 128]⟩
abbrev S128 : Shape := ⟨1, ![128]⟩
abbrev S2048x16 : Shape := ⟨2, ![2048, 16]⟩
abbrev S_ : Shape := ⟨0, ![]⟩

class Facts : Prop where
  bcast_S_S1x2048x2048 : S_.BroadcastsInDim S1x2048x2048 (![] : Fin 0 → Fin S1x2048x2048.rank)

variable [Facts]

def fn {F : FTy → Type} [FloatOps F] (main_arg0 : FVec F S1x2048x2048 .f32) (main_arg1 : FVec F S1x2048x1536 .f32) (main_arg2 : FVec F S1x2048x64 .f32) (main_arg3 : FVec F S1x2048x64 .f32) (main_arg4 : FVec F S1x2048x2048 .f32) (main_arg5 : FVec F S1536x2048 .f32) (main_arg6 : FVec F S2048x128 .f32) (main_arg7 : FVec F S128 .f32) (main_arg8 : FVec F S128 .f32) (main_arg9 : FVec F S2048x16 .f32) : IVec S1x2048x2048 1 :=
  let main_cst : FVec F S_ .f32 := constant S_ .f32 0x00000000#32
  let main_v0 : FVec F S1x2048x2048 .f32 := broadcastInDim S1x2048x2048 ![] bcast_S_S1x2048x2048 main_cst
  let main_v1 : IVec S1x2048x2048 1 := cmpf .oeq main_arg4 main_v0
  main_v1
-- ==== Kernel.lean ====
abbrev S1x2048x2048 : Shape := ⟨3, ![1, 2048, 2048]⟩
abbrev S1x2048x1536 : Shape := ⟨3, ![1, 2048, 1536]⟩
abbrev S1x2048x64 : Shape := ⟨3, ![1, 2048, 64]⟩
abbrev S1536x2048 : Shape := ⟨2, ![1536, 2048]⟩
abbrev S2048x128 : Shape := ⟨2, ![2048, 128]⟩
abbrev S128 : Shape := ⟨1, ![128]⟩
abbrev S2048x16 : Shape := ⟨2, ![2048, 16]⟩
abbrev S2048x2048 : Shape := ⟨2, ![2048, 2048]⟩
abbrev S2048x1536 : Shape := ⟨2, ![2048, 1536]⟩
abbrev S2048x64 : Shape := ⟨2, ![2048, 64]⟩
abbrev S1x128 : Shape := ⟨2, ![1, 128]⟩
abbrev S128x2048 : Shape := ⟨2, ![128, 2048]⟩
abbrev S2048x8 : Shape := ⟨2, ![2048, 8]⟩
abbrev S2048x4 : Shape := ⟨2, ![2048, 4]⟩
abbrev S2048x2 : Shape := ⟨2, ![2048, 2]⟩
abbrev S2048x1 : Shape := ⟨2, ![2048, 1]⟩
abbrev S2048x32 : Shape := ⟨2, ![2048, 32]⟩
abbrev S2048x96 : Shape := ⟨2, ![2048, 96]⟩
abbrev S2048x127 : Shape := ⟨2, ![2048, 127]⟩
abbrev S2048x126 : Shape := ⟨2, ![2048, 126]⟩
abbrev S2048x124 : Shape := ⟨2, ![2048, 124]⟩
abbrev S2048x120 : Shape := ⟨2, ![2048, 120]⟩
abbrev S2048x112 : Shape := ⟨2, ![2048, 112]⟩
abbrev S16x2048 : Shape := ⟨2, ![16, 2048]⟩
abbrev S256x1536 : Shape := ⟨2, ![256, 1536]⟩
abbrev S256x64 : Shape := ⟨2, ![256, 64]⟩
abbrev S256x16 : Shape := ⟨2, ![256, 16]⟩
abbrev S256x2048 : Shape := ⟨2, ![256, 2048]⟩
abbrev S2048x256 : Shape := ⟨2, ![2048, 256]⟩
abbrev S256x32 : Shape := ⟨2, ![256, 32]⟩
abbrev S256x128 : Shape := ⟨2, ![256, 128]⟩
abbrev S256x2016 : Shape := ⟨2, ![256, 2016]⟩
abbrev S256x2047 : Shape := ⟨2, ![256, 2047]⟩
abbrev S256x1 : Shape := ⟨2, ![256, 1]⟩
abbrev S256x2046 : Shape := ⟨2, ![256, 2046]⟩
abbrev S256x2 : Shape := ⟨2, ![256, 2]⟩
abbrev S256x2044 : Shape := ⟨2, ![256, 2044]⟩
abbrev S256x4 : Shape := ⟨2, ![256, 4]⟩
abbrev S256x2040 : Shape := ⟨2, ![256, 2040]⟩
abbrev S256x8 : Shape := ⟨2, ![256, 8]⟩
abbrev S256x2032 : Shape := ⟨2, ![256, 2032]⟩
abbrev S256x1984 : Shape := ⟨2, ![256, 1984]⟩
abbrev S1x2048x1024 : Shape := ⟨3, ![1, 2048, 1024]⟩
abbrev S8x2048 : Shape := ⟨2, ![8, 2048]⟩
abbrev S1x8x1024 : Shape := ⟨3, ![1, 8, 1024]⟩
abbrev S8x1 : Shape := ⟨2, ![8, 1]⟩
abbrev S8x2047 : Shape := ⟨2, ![8, 2047]⟩
abbrev S8x2 : Shape := ⟨2, ![8, 2]⟩
abbrev S8x2046 : Shape := ⟨2, ![8, 2046]⟩
abbrev S8x4 : Shape := ⟨2, ![8, 4]⟩
abbrev S8x2044 : Shape := ⟨2, ![8, 2044]⟩
abbrev S8x8 : Shape := ⟨2, ![8, 8]⟩
abbrev S8x2040 : Shape := ⟨2, ![8, 2040]⟩
abbrev S8x16 : Shape := ⟨2, ![8, 16]⟩
abbrev S8x2032 : Shape := ⟨2, ![8, 2032]⟩
abbrev S8x32 : Shape := ⟨2, ![8, 32]⟩
abbrev S8x2016 : Shape := ⟨2, ![8, 2016]⟩
abbrev S8x64 : Shape := ⟨2, ![8, 64]⟩
abbrev S8x1984 : Shape := ⟨2, ![8, 1984]⟩
abbrev S8x128 : Shape := ⟨2, ![8, 128]⟩
abbrev S8x1920 : Shape := ⟨2, ![8, 1920]⟩
abbrev S8x256 : Shape := ⟨2, ![8, 256]⟩
abbrev S8x1792 : Shape := ⟨2, ![8, 1792]⟩
abbrev S8x512 : Shape := ⟨2, ![8, 512]⟩
abbrev S8x1536 : Shape := ⟨2, ![8, 1536]⟩
abbrev S8x1024 : Shape := ⟨2, ![8, 1024]⟩

abbrev nBuf : Space → Nat
  | .hbm => 21
  | .vmem => 27
  | .smem => 0
  | _ => 0

abbrev bufTy : (tb : Table) → Fin (tcTables nBuf tb) → BufTy
  | .hbm, ⟨0, _⟩ => ⟨S1x2048x2048, .f32⟩
  | .hbm, ⟨1, _⟩ => ⟨S1x2048x1536, .f32⟩
  | .hbm, ⟨2, _⟩ => ⟨S1x2048x64, .f32⟩
  | .hbm, ⟨3, _⟩ => ⟨S1x2048x64, .f32⟩
  | .hbm, ⟨4, _⟩ => ⟨S1x2048x2048, .f32⟩
  | .hbm, ⟨5, _⟩ => ⟨S1536x2048, .f32⟩
  | .hbm, ⟨6, _⟩ => ⟨S2048x128, .f32⟩
  | .hbm, ⟨7, _⟩ => ⟨S128, .f32⟩
  | .hbm, ⟨8, _⟩ => ⟨S128, .f32⟩
  | .hbm, ⟨9, _⟩ => ⟨S2048x16, .f32⟩
  | .hbm, ⟨10, _⟩ => ⟨S2048x2048, .f32⟩
  | .hbm, ⟨11, _⟩ => ⟨S2048x1536, .f32⟩
  | .hbm, ⟨12, _⟩ => ⟨S2048x64, .f32⟩
  | .hbm, ⟨13, _⟩ => ⟨S2048x64, .f32⟩
  | .hbm, ⟨14, _⟩ => ⟨S1x128, .f32⟩
  | .hbm, ⟨15, _⟩ => ⟨S1x128, .f32⟩
  | .hbm, ⟨16, _⟩ => ⟨S2048x128, .f32⟩
  | .hbm, ⟨17, _⟩ => ⟨S2048x16, .f32⟩
  | .hbm, ⟨18, _⟩ => ⟨S2048x2048, .f32⟩
  | .hbm, ⟨19, _⟩ => ⟨S1x2048x1024, .f32⟩
  | .hbm, ⟨20, _⟩ => ⟨S1x2048x1024, .i32⟩
  | .local _ .vmem, ⟨0, _⟩ => ⟨S2048x2048, .f32⟩
  | .local _ .vmem, ⟨1, _⟩ => ⟨S2048x128, .f32⟩
  | .local _ .vmem, ⟨2, _⟩ => ⟨S1x128, .f32⟩
  | .local _ .vmem, ⟨3, _⟩ => ⟨S1x128, .f32⟩
  | .local _ .vmem, ⟨4, _⟩ => ⟨S2048x64, .f32⟩
  | .local _ .vmem, ⟨5, _⟩ => ⟨S2048x64, .f32⟩
  | .local _ .vmem, ⟨6, _⟩ => ⟨S2048x16, .f32⟩
  | .local _ .vmem, ⟨7, _⟩ => ⟨S2048x128, .f32⟩
  | .local _ .vmem, ⟨8, _⟩ => ⟨S2048x16, .f32⟩
  | .local _ .vmem, ⟨9, _⟩ => ⟨S256x1536, .f32⟩
  | .local _ .vmem, ⟨10, _⟩ => ⟨S256x1536, .f32⟩
  | .local _ .vmem, ⟨11, _⟩ => ⟨S1536x2048, .f32⟩
  | .local _ .vmem, ⟨12, _⟩ => ⟨S256x64, .f32⟩
  | .local _ .vmem, ⟨13, _⟩ => ⟨S256x64, .f32⟩
  | .local _ .vmem, ⟨14, _⟩ => ⟨S256x64, .f32⟩
  | .local _ .vmem, ⟨15, _⟩ => ⟨S256x64, .f32⟩
  | .local _ .vmem, ⟨16, _⟩ => ⟨S2048x128, .f32⟩
  | .local _ .vmem, ⟨17, _⟩ => ⟨S256x16, .f32⟩
  | .local _ .vmem, ⟨18, _⟩ => ⟨S256x16, .f32⟩
  | .local _ .vmem, ⟨19, _⟩ => ⟨S256x2048, .f32⟩
  | .local _ .vmem, ⟨20, _⟩ => ⟨S256x2048, .f32⟩
  | .local _ .vmem, ⟨21, _⟩ => ⟨S8x2048, .f32⟩
  | .local _ .vmem, ⟨22, _⟩ => ⟨S8x2048, .f32⟩
  | .local _ .vmem, ⟨23, _⟩ => ⟨S1x8x1024, .f32⟩
  | .local _ .vmem, ⟨24, _⟩ => ⟨S1x8x1024, .f32⟩
  | .local _ .vmem, ⟨25, _⟩ => ⟨S1x8x1024, .i32⟩
  | .local _ .vmem, ⟨26, _⟩ => ⟨S1x8x1024, .i32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26

abbrev nD : Nat := 1
abbrev τ : Topo := Topo.v7x

variable {F : FTy → Type} [FloatOps F]

abbrev grid0 : Pipeline.Grid := .none

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1536x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2048x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![256], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S8x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8x1024 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S1x2048x2048 : Shape := ⟨3, ![1, 2048, 2048]⟩
abbrev S1x2048x1536 : Shape := ⟨3, ![1, 2048, 1536]⟩
abbrev S1x2048x64 : Shape := ⟨3, ![1, 2048, 64]⟩
abbrev S1536x2048 : Shape := ⟨2, ![1536, 2048]⟩
abbrev S2048x128 : Shape := ⟨2, ![2048, 128]⟩
abbrev S128 : Shape := ⟨1, ![128]⟩
abbrev S2048x16 : Shape := ⟨2, ![2048, 16]⟩
abbrev S1x2048x16x128 : Shape := ⟨4, ![1, 2048, 16, 128]⟩
abbrev S1x2048x16x64 : Shape := ⟨4, ![1, 2048, 16, 64]⟩
abbrev S1x2048x128 : Shape := ⟨3, ![1, 2048, 128]⟩
abbrev S_ : Shape := ⟨0, ![]⟩
abbrev S1x2048 : Shape := ⟨2, ![1, 2048]⟩
abbrev S1x2048x1 : Shape := ⟨3, ![1, 2048, 1]⟩
abbrev S1x1x128 : Shape := ⟨3, ![1, 1, 128]⟩
abbrev S1x2048x1x64 : Shape := ⟨4, ![1, 2048, 1, 64]⟩
abbrev S1x2048x16x32 : Shape := ⟨4, ![1, 2048, 16, 32]⟩
abbrev S1x2048x1x32 : Shape := ⟨4, ![1, 2048, 1, 32]⟩
abbrev S1x2048x32 : Shape := ⟨3, ![1, 2048, 32]⟩
abbrev S1x2048x16x64x2x1 : Shape := ⟨6, ![1, 2048, 16, 64, 2, 1]⟩
abbrev S1x2048x16x64x1x1 : Shape := ⟨6, ![1, 2048, 16, 64, 1, 1]⟩
abbrev S1x2048x16x64x1 : Shape := ⟨5, ![1, 2048, 16, 64, 1]⟩
abbrev S1x2048x16x32x2x2 : Shape := ⟨6, ![1, 2048, 16, 32, 2, 2]⟩
abbrev S1x2048x16x32x1x2 : Shape := ⟨6, ![1, 2048, 16, 32, 1, 2]⟩
abbrev S1x2048x16x32x2 : Shape := ⟨5, ![1, 2048, 16, 32, 2]⟩
abbrev S1x2048x16x16x2x4 : Shape := ⟨6, ![1, 2048, 16, 16, 2, 4]⟩
abbrev S1x2048x16x16x1x4 : Shape := ⟨6, ![1, 2048, 16, 16, 1, 4]⟩
abbrev S1x2048x16x16x4 : Shape := ⟨5, ![1, 2048, 16, 16, 4]⟩
abbrev S1x2048x16x8x2x8 : Shape := ⟨6, ![1, 2048, 16, 8, 2, 8]⟩
abbrev S1x2048x16x8x1x8 : Shape := ⟨6, ![1, 2048, 16, 8, 1, 8]⟩
abbrev S1x2048x16x8x8 : Shape := ⟨5, ![1, 2048, 16, 8, 8]⟩
abbrev S1x2048x16x4x2x16 : Shape := ⟨6, ![1, 2048, 16, 4, 2, 16]⟩
abbrev S1x2048x16x4x1x16 : Shape := ⟨6, ![1, 2048, 16, 4, 1, 16]⟩
abbrev S1x2048x16x4x16 : Shape := ⟨5, ![1, 2048, 16, 4, 16]⟩
abbrev S1x2048x16x2x2x32 : Shape := ⟨6, ![1, 2048, 16, 2, 2, 32]⟩
abbrev S1x2048x16x2x1x32 : Shape := ⟨6, ![1, 2048, 16, 2, 1, 32]⟩
abbrev S1x2048x16x2x32 : Shape := ⟨5, ![1, 2048, 16, 2, 32]⟩
abbrev S1x2048x16x1x2x64 : Shape := ⟨6, ![1, 2048, 16, 1, 2, 64]⟩
abbrev S1x2048x16x1x1x64 : Shape := ⟨6, ![1, 2048, 16, 1, 1, 64]⟩
abbrev S1x2048x16x1x64 : Shape := ⟨5, ![1, 2048, 16, 1, 64]⟩
abbrev S1x2048x64x2x1 : Shape := ⟨5, ![1, 2048, 64, 2, 1]⟩
abbrev S1x2048x64x1x1 : Shape := ⟨5, ![1, 2048, 64, 1, 1]⟩
abbrev S1x2048x64x1 : Shape := ⟨4, ![1, 2048, 64, 1]⟩
abbrev S1x2048x32x2x2 : Shape := ⟨5, ![1, 2048, 32, 2, 2]⟩
abbrev S1x2048x32x1x2 : Shape := ⟨5, ![1, 2048, 32, 1, 2]⟩
abbrev S1x2048x32x2 : Shape := ⟨4, ![1, 2048, 32, 2]⟩
abbrev S1x2048x16x2x4 : Shape := ⟨5, ![1, 2048, 16, 2, 4]⟩
abbrev S1x2048x16x1x4 : Shape := ⟨5, ![1, 2048, 16, 1, 4]⟩
abbrev S1x2048x16x4 : Shape := ⟨4, ![1, 2048, 16, 4]⟩
abbrev S1x2048x8x2x8 : Shape := ⟨5, ![1, 2048, 8, 2, 8]⟩
abbrev S1x2048x8x1x8 : Shape := ⟨5, ![1, 2048, 8, 1, 8]⟩
abbrev S1x2048x8x8 : Shape := ⟨4, ![1, 2048, 8, 8]⟩
abbrev S1x2048x4x2x16 : Shape := ⟨5, ![1, 2048, 4, 2, 16]⟩
abbrev S1x2048x4x1x16 : Shape := ⟨5, ![1, 2048, 4, 1, 16]⟩
abbrev S1x2048x4x16 : Shape := ⟨4, ![1, 2048, 4, 16]⟩
abbrev S1x2048x2x2x32 : Shape := ⟨5, ![1, 2048, 2, 2, 32]⟩
abbrev S1x2048x2x1x32 : Shape := ⟨5, ![1, 2048, 2, 1, 32]⟩
abbrev S1x2048x2x32 : Shape := ⟨4, ![1, 2048, 2, 32]⟩
abbrev S1x2048x1x2x64 : Shape := ⟨5, ![1, 2048, 1, 2, 64]⟩
abbrev S1x2048x1x1x64 : Shape := ⟨5, ![1, 2048, 1, 1, 64]⟩
abbrev S1x2048x16 : Shape := ⟨3, ![1, 2048, 16]⟩
abbrev S1x2048x16x2048 : Shape := ⟨4, ![1, 2048, 16, 2048]⟩
abbrev S1x2048x16x1 : Shape := ⟨4, ![1, 2048, 16, 1]⟩
abbrev S1x2048x1024 : Shape := ⟨3, ![1, 2048, 1024]⟩

abbrev nBuf : Space → Nat
  | .hbm => 255
  | .vmem => 0
  | .smem => 0
  | _ => 0

abbrev hbmTy0_0 (i : Nat) : BufTy := match i % 128 with
  | 0 => ⟨S1x2048x2048, .f32⟩
  | 1 => ⟨S1x2048x1536, .f32⟩
  | 2 => ⟨S1x2048x64, .f32⟩
  | 3 => ⟨S1x2048x64, .f32⟩
  | 4 => ⟨S1x2048x2048, .f32⟩
  | 5 => ⟨S1536x2048, .f32⟩
  | 6 => ⟨S2048x128, .f32⟩
  | 7 => ⟨S128, .f32⟩
  | 8 => ⟨S128, .f32⟩
  | 9 => ⟨S2048x16, .f32⟩
  | 10 => ⟨S1x2048x2048, .f32⟩
  | 11 => ⟨S1x2048x16x128, .f32⟩
  | 12 => ⟨S1x2048x16x64, .f32⟩
  | 13 => ⟨S1x2048x16x64, .f32⟩
  | 14 => ⟨S1x2048x128, .f32⟩
  | 15 => ⟨S_, .f32⟩
  | 16 => ⟨S1x2048, .f32⟩
  | 17 => ⟨S1x2048x1, .f32⟩
  | 18 => ⟨S_, .f32⟩
  | 19 => ⟨S1x2048x1, .f32⟩
  | 20 => ⟨S1x2048x1, .f32⟩
  | 21 => ⟨S1x2048x128, .f32⟩
  | 22 => ⟨S1x2048x128, .f32⟩
  | 23 => ⟨S1x2048x128, .f32⟩
  | 24 => ⟨S_, .f32⟩
  | 25 => ⟨S1x2048, .f32⟩
  | 26 => ⟨S1x2048x1, .f32⟩
  | 27 => ⟨S_, .f32⟩
  | 28 => ⟨S1x2048x1, .f32⟩
  | 29 => ⟨S1x2048x1, .f32⟩
  | 30 => ⟨S1x2048x128, .f32⟩
  | 31 => ⟨S1x2048x128, .f32⟩
  | 32 => ⟨S_, .f32⟩
  | 33 => ⟨S1x2048x1, .f32⟩
  | 34 => ⟨S1x2048x1, .f32⟩
  | 35 => ⟨S1x2048x1, .f32⟩
  | 36 => ⟨S1x2048x128, .f32⟩
  | 37 => ⟨S1x2048x128, .f32⟩
  | 38 => ⟨S1x1x128, .f32⟩
  | 39 => ⟨S1x2048x128, .f32⟩
  | 40 => ⟨S1x2048x128, .f32⟩
  | 41 => ⟨S1x1x128, .f32⟩
  | 42 => ⟨S1x2048x128, .f32⟩
  | 43 => ⟨S1x2048x128, .f32⟩
  | 44 => ⟨S1x2048x64, .f32⟩
  | 45 => ⟨S1x2048x1x64, .f32⟩
  | 46 => ⟨S1x2048x64, .f32⟩
  | 47 => ⟨S1x2048x16x32, .f32⟩
  | 48 => ⟨S1x2048x16x32, .f32⟩
  | 49 => ⟨S1x2048x1x32, .f32⟩
  | 50 => ⟨S1x2048x1x32, .f32⟩
  | 51 => ⟨S1x2048x32, .f32⟩
  | 52 => ⟨S1x2048x1x32, .f32⟩
  | 53 => ⟨S1x2048x32, .f32⟩
  | 54 => ⟨S1x2048x1x32, .f32⟩
  | 55 => ⟨S1x2048x16x32, .f32⟩
  | 56 => ⟨S1x2048x16x32, .f32⟩
  | 57 => ⟨S1x2048x16x32, .f32⟩
  | 58 => ⟨S1x2048x16x32, .f32⟩
  | 59 => ⟨S1x2048x16x32, .f32⟩
  | 60 => ⟨S1x2048x16x32, .f32⟩
  | 61 => ⟨S1x2048x16x32, .f32⟩
  | 62 => ⟨S1x2048x16x32, .f32⟩
  | 63 => ⟨S1x2048x16x32, .f32⟩
  | 64 => ⟨S1x2048x16x32, .f32⟩
  | 65 => ⟨S1x2048x16x64, .f32⟩
  | 66 => ⟨S1x2048x1x32, .f32⟩
  | 67 => ⟨S1x2048x1x32, .f32⟩
  | 68 => ⟨S1x2048x1x32, .f32⟩
  | 69 => ⟨S1x2048x1x32, .f32⟩
  | 70 => ⟨S1x2048x1x32, .f32⟩
  | 71 => ⟨S1x2048x1x32, .f32⟩
  | 72 => ⟨S1x2048x1x64, .f32⟩
  | 73 => ⟨S1x2048x16x128, .f32⟩
  | 74 => ⟨S1x2048x64, .f32⟩
  | 75 => ⟨S1x2048x128, .f32⟩
  | 76 => ⟨S1x2048x16x64x2x1, .f32⟩
  | 77 => ⟨S1x2048x16x64x1x1, .f32⟩
  | 78 => ⟨S1x2048x16x64x1, .f32⟩
  | 79 => ⟨S1x2048x16x64x1x1, .f32⟩
  | 80 => ⟨S1x2048x16x64x1, .f32⟩
  | 81 => ⟨S1x2048x16x64x1, .f32⟩
  | 82 => ⟨S1x2048x16x64x1, .f32⟩
  | 83 => ⟨S1x2048x16x64x1x1, .f32⟩
  | 84 => ⟨S1x2048x16x64x1x1, .f32⟩
  | 85 => ⟨S1x2048x16x64x2x1, .f32⟩
  | 86 => ⟨S1x2048x16x128, .f32⟩
  | 87 => ⟨S1x2048x16x32x2x2, .f32⟩
  | 88 => ⟨S1x2048x16x32x1x2, .f32⟩
  | 89 => ⟨S1x2048x16x32x2, .f32⟩
  | 90 => ⟨S1x2048x16x32x1x2, .f32⟩
  | 91 => ⟨S1x2048x16x32x2, .f32⟩
  | 92 => ⟨S1x2048x16x32x2, .f32⟩
  | 93 => ⟨S1x2048x16x32x2, .f32⟩
  | 94 => ⟨S1x2048x16x32x1x2, .f32⟩
  | 95 => ⟨S1x2048x16x32x1x2, .f32⟩
  | 96 => ⟨S1x2048x16x32x2x2, .f32⟩
  | 97 => ⟨S1x2048x16x128, .f32⟩
  | 98 => ⟨S1x2048x16x16x2x4, .f32⟩
  | 99 => ⟨S1x2048x16x16x1x4, .f32⟩
  | 100 => ⟨S1x2048x16x16x4, .f32⟩
  | 101 => ⟨S1x2048x16x16x1x4, .f32⟩
  | 102 => ⟨S1x2048x16x16x4, .f32⟩
  | 103 => ⟨S1x2048x16x16x4, .f32⟩
  | 104 => ⟨S1x2048x16x16x4, .f32⟩
  | 105 => ⟨S1x2048x16x16x1x4, .f32⟩
  | 106 => ⟨S1x2048x16x16x1x4, .f32⟩
  | 107 => ⟨S1x2048x16x16x2x4, .f32⟩
  | 108 => ⟨S1x2048x16x128, .f32⟩
  | 109 => ⟨S1x2048x16x8x2x8, .f32⟩
  | 110 => ⟨S1x2048x16x8x1x8, .f32⟩
  | 111 => ⟨S1x2048x16x8x8, .f32⟩
  | 112 => ⟨S1x2048x16x8x1x8, .f32⟩
  | 113 => ⟨S1x2048x16x8x8, .f32⟩
  | 114 => ⟨S1x2048x16x8x8, .f32⟩
  | 115 => ⟨S1x2048x16x8x8, .f32⟩
  | 116 => ⟨S1x2048x16x8x1x8, .f32⟩
  | 117 => ⟨S1x2048x16x8x1x8, .f32⟩
  | 118 => ⟨S1x2048x16x8x2x8, .f32⟩
  | 119 => ⟨S1x2048x16x128, .f32⟩
  | 120 => ⟨S1x2048x16x4x2x16, .f32⟩
  | 121 => ⟨S1x2048x16x4x1x16, .f32⟩
  | 122 => ⟨S1x2048x16x4x16, .f32⟩
  | 123 => ⟨S1x2048x16x4x1x16, .f32⟩
  | 124 => ⟨S1x2048x16x4x16, .f32⟩
  | 125 => ⟨S1x2048x16x4x16, .f32⟩
  | 126 => ⟨S1x2048x16x4x16, .f32⟩
  | 127 => ⟨S1x2048x16x4x1x16, .f32⟩
  | _ => ⟨S1x2048x2048, .f32⟩

abbrev hbmTy0_1 (i : Nat) : BufTy := match i % 128 with
  | 0 => ⟨S1x2048x16x4x1x16, .f32⟩
  | 1 => ⟨S1x2048x16x4x2x16, .f32⟩
  | 2 => ⟨S1x2048x16x128, .f32⟩
  | 3 => ⟨S1x2048x16x2x2x32, .f32⟩
  | 4 => ⟨S1x2048x16x2x1x32, .f32⟩
  | 5 => ⟨S1x2048x16x2x32, .f32⟩
  | 6 => ⟨S1x2048x16x2x1x32, .f32⟩
  | 7 => ⟨S1x2048x16x2x32, .f32⟩
  | 8 => ⟨S1x2048x16x2x32, .f32⟩
  | 9 => ⟨S1x2048x16x2x32, .f32⟩
  | 10 => ⟨S1x2048x16x2x1x32, .f32⟩
  | 11 => ⟨S1x2048x16x2x1x32, .f32⟩
  | 12 => ⟨S1x2048x16x2x2x32, .f32⟩
  | 13 => ⟨S1x2048x16x128, .f32⟩
  | 14 => ⟨S1x2048x16x1x2x64, .f32⟩
  | 15 => ⟨S1x2048x16x1x1x64, .f32⟩
  | 16 => ⟨S1x2048x16x1x64, .f32⟩
  | 17 => ⟨S1x2048x16x1x1x64, .f32⟩
  | 18 => ⟨S1x2048x16x1x64, .f32⟩
  | 19 => ⟨S1x2048x16x1x64, .f32⟩
  | 20 => ⟨S1x2048x16x1x64, .f32⟩
  | 21 => ⟨S1x2048x16x1x1x64, .f32⟩
  | 22 => ⟨S1x2048x16x1x1x64, .f32⟩
  | 23 => ⟨S1x2048x16x1x2x64, .f32⟩
  | 24 => ⟨S1x2048x16x128, .f32⟩
  | 25 => ⟨S_, .f32⟩
  | 26 => ⟨S1x2048x16x128, .f32⟩
  | 27 => ⟨S1x2048x16x128, .f32⟩
  | 28 => ⟨S1x2048x64x2x1, .f32⟩
  | 29 => ⟨S1x2048x64x1x1, .f32⟩
  | 30 => ⟨S1x2048x64x1, .f32⟩
  | 31 => ⟨S1x2048x64x1x1, .f32⟩
  | 32 => ⟨S1x2048x64x1, .f32⟩
  | 33 => ⟨S1x2048x64x1, .f32⟩
  | 34 => ⟨S1x2048x64x1, .f32⟩
  | 35 => ⟨S1x2048x64x1x1, .f32⟩
  | 36 => ⟨S1x2048x64x1x1, .f32⟩
  | 37 => ⟨S1x2048x64x2x1, .f32⟩
  | 38 => ⟨S1x2048x128, .f32⟩
  | 39 => ⟨S1x2048x32x2x2, .f32⟩
  | 40 => ⟨S1x2048x32x1x2, .f32⟩
  | 41 => ⟨S1x2048x32x2, .f32⟩
  | 42 => ⟨S1x2048x32x1x2, .f32⟩
  | 43 => ⟨S1x2048x32x2, .f32⟩
  | 44 => ⟨S1x2048x32x2, .f32⟩
  | 45 => ⟨S1x2048x32x2, .f32⟩
  | 46 => ⟨S1x2048x32x1x2, .f32⟩
  | 47 => ⟨S1x2048x32x1x2, .f32⟩
  | 48 => ⟨S1x2048x32x2x2, .f32⟩
  | 49 => ⟨S1x2048x128, .f32⟩
  | 50 => ⟨S1x2048x16x2x4, .f32⟩
  | 51 => ⟨S1x2048x16x1x4, .f32⟩
  | 52 => ⟨S1x2048x16x4, .f32⟩
  | 53 => ⟨S1x2048x16x1x4, .f32⟩
  | 54 => ⟨S1x2048x16x4, .f32⟩
  | 55 => ⟨S1x2048x16x4, .f32⟩
  | 56 => ⟨S1x2048x16x4, .f32⟩
  | 57 => ⟨S1x2048x16x1x4, .f32⟩
  | 58 => ⟨S1x2048x16x1x4, .f32⟩
  | 59 => ⟨S1x2048x16x2x4, .f32⟩
  | 60 => ⟨S1x2048x128, .f32⟩
  | 61 => ⟨S1x2048x8x2x8, .f32⟩
  | 62 => ⟨S1x2048x8x1x8, .f32⟩
  | 63 => ⟨S1x2048x8x8, .f32⟩
  | 64 => ⟨S1x2048x8x1x8, .f32⟩
  | 65 => ⟨S1x2048x8x8, .f32⟩
  | 66 => ⟨S1x2048x8x8, .f32⟩
  | 67 => ⟨S1x2048x8x8, .f32⟩
  | 68 => ⟨S1x2048x8x1x8, .f32⟩
  | 69 => ⟨S1x2048x8x1x8, .f32⟩
  | 70 => ⟨S1x2048x8x2x8, .f32⟩
  | 71 => ⟨S1x2048x128, .f32⟩
  | 72 => ⟨S1x2048x4x2x16, .f32⟩
  | 73 => ⟨S1x2048x4x1x16, .f32⟩
  | 74 => ⟨S1x2048x4x16, .f32⟩
  | 75 => ⟨S1x2048x4x1x16, .f32⟩
  | 76 => ⟨S1x2048x4x16, .f32⟩
  | 77 => ⟨S1x2048x4x16, .f32⟩
  | 78 => ⟨S1x2048x4x16, .f32⟩
  | 79 => ⟨S1x2048x4x1x16, .f32⟩
  | 80 => ⟨S1x2048x4x1x16, .f32⟩
  | 81 => ⟨S1x2048x4x2x16, .f32⟩
  | 82 => ⟨S1x2048x128, .f32⟩
  | 83 => ⟨S1x2048x2x2x32, .f32⟩
  | 84 => ⟨S1x2048x2x1x32, .f32⟩
  | 85 => ⟨S1x2048x2x32, .f32⟩
  | 86 => ⟨S1x2048x2x1x32, .f32⟩
  | 87 => ⟨S1x2048x2x32, .f32⟩
  | 88 => ⟨S1x2048x2x32, .f32⟩
  | 89 => ⟨S1x2048x2x32, .f32⟩
  | 90 => ⟨S1x2048x2x1x32, .f32⟩
  | 91 => ⟨S1x2048x2x1x32, .f32⟩
  | 92 => ⟨S1x2048x2x2x32, .f32⟩
  | 93 => ⟨S1x2048x128, .f32⟩
  | 94 => ⟨S1x2048x1x2x64, .f32⟩
  | 95 => ⟨S1x2048x1x1x64, .f32⟩
  | 96 => ⟨S1x2048x1x64, .f32⟩
  | 97 => ⟨S1x2048x1x1x64, .f32⟩
  | 98 => ⟨S1x2048x1x64, .f32⟩
  | 99 => ⟨S1x2048x1x64, .f32⟩
  | 100 => ⟨S1x2048x1x64, .f32⟩
  | 101 => ⟨S1x2048x1x1x64, .f32⟩
  | 102 => ⟨S1x2048x1x1x64, .f32⟩
  | 103 => ⟨S1x2048x1x2x64, .f32⟩
  | 104 => ⟨S1x2048x128, .f32⟩
  | 105 => ⟨S_, .f32⟩
  | 106 => ⟨S1x2048x128, .f32⟩
  | 107 => ⟨S1x2048x128, .f32⟩
  | 108 => ⟨S1x2048x16, .f32⟩
  | 109 => ⟨S_, .f32⟩
  | 110 => ⟨S1x2048x16, .f32⟩
  | 111 => ⟨S1x2048x16, .f32⟩
  | 112 => ⟨S1x2048x16x2048, .f32⟩
  | 113 => ⟨S_, .f32⟩
  | 114 => ⟨S1x2048x16x2048, .f32⟩
  | 115 => ⟨S1x2048x16x2048, .f32⟩
  | 116 => ⟨S_, .f32⟩
  | 117 => ⟨S1x2048x16x2048, .f32⟩
  | 118 => ⟨S1x2048x16x2048, .f32⟩
  | 119 => ⟨S1x2048x16x1, .f32⟩
  | 120 => ⟨S1x2048x16x2048, .f32⟩
  | 121 => ⟨S1x2048x16x2048, .f32⟩
  | 122 => ⟨S_, .f32⟩
  | 123 => ⟨S1x2048x2048, .f32⟩
  | 124 => ⟨S1x2048x2048, .f32⟩
  | 125 => ⟨S1x2048x1024, .f32⟩
  | 126 => ⟨S1x2048x1024, .i32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_cst_4 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_cst_5 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_cst_6 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_call0_cst : Ref sig .tc := ⟨.hbm, 241, rfl⟩
abbrev main_call0_v0 : Ref sig .tc := ⟨.hbm, 242, rfl⟩
abbrev main_v223 : Ref sig .tc := ⟨.hbm, 243, rfl⟩
abbrev main_cst_7 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_cst_8 : Ref sig .tc := ⟨.hbm, 250, rfl⟩
abbrev main_v229 : Ref sig .tc := ⟨.hbm, 251, rfl⟩
abbrev main_v230 : Ref sig .tc := ⟨.hbm, 252, rfl⟩
abbrev main_values : Ref sig .tc := ⟨.hbm, 253, rfl⟩
abbrev main_indices : Ref sig .tc := ⟨.hbm, 254, rfl⟩

abbrev nD : Nat := 1
abbrev τ : Topo := Topo.v7x

variable {F : FTy → Type} [FloatOps F]
-- ==== Proof.Lanes.lean ====
/- Rotations of a matrix along its second axis, and a matrix row read at a natural position. -/
module

public import proofs.«01_k».proof.Proof.Gen.KernelIdeal.Skeleton
public import Idealize.ShloMosaic.Lib.ValueIdx
public import Idealize.ShloMosaic.Lib.ValueLayout
public import Idealize.ShloMosaic.Lib.Pipeline.Value

@[expose] public section

set_option maxRecDepth 16384

noncomputable section

namespace Cert.Lanes
open Idealize.ShloMosaic Idealize.ShloMosaic.ValueIdx

variable {α : Type}

/-- The `m × n` shape. -/
abbrev mat (m n : Nat) : Shape := ⟨2, ![m, n]⟩

theorem slices_tail (m n a b : Nat) (h : a + b = n) : (mat m n).Slices ![0, b] (mat m a) := by
  refine ⟨rfl, fun x => ?_⟩
  fin_cases x
  · show 0 + m ≤ m; omega
  · show b + a ≤ n; omega

theorem slices_head (m n a b : Nat) (h : a + b = n) : (mat m n).Slices ![0, 0] (mat m b) := by
  refine ⟨rfl, fun x => ?_⟩
  fin_cases x
  · show 0 + m ≤ m; omega
  · show 0 + b ≤ n; omega

theorem concat_two (m n a b : Nat) (h : a + b = n) :
    Shape.Concatenates [mat m a, mat m b] (mat m n) 1 := by
  refine ⟨by simp, fun s hs => ?_, ?_⟩
  · simp only [List.mem_cons, List.not_mem_nil, or_false] at hs
    rcases hs with rfl | rfl
    · refine ⟨rfl, fun x hx => ?_⟩
      fin_cases x
      · rfl
      · exact absurd rfl hx
    · refine ⟨rfl, fun x hx => ?_⟩
      fin_cases x
      · rfl
      · exact absurd rfl hx
  · show a + (b + 0) = n; omega

/-- The columns moved right by `a`, the last `a` of them wrapping to the front. -/
def rot (m n a b : Nat) (h : a + b = n) (x : (mat m n).Idx → α) : (mat m n).Idx → α :=
  concatenate (mat m n) 1
    [⟨mat m a, extractStridedSlice (mat m a) ![0, b] x (slices_tail m n a b h)⟩,
     ⟨mat m b, extractStridedSlice (mat m b) ![0, 0] x (slices_head m n a b h)⟩]
    (concat_two m n a b h)

/-- Row `r` of a matrix as a function of the position, `default` past the end. -/
def rowOf [Inhabited α] {m n : Nat} (x : (mat m n).Idx → α) (r : Fin m) (j : Nat) : α :=
  if h : j < n then x (ix2 r ⟨j, h⟩) else default

theorem rowOf_lt [Inhabited α] {m n : Nat} (x : (mat m n).Idx → α) (r : Fin m) (j : Nat) (h : j < n) :
    rowOf x r j = x (ix2 r ⟨j, h⟩) := dif_pos h

theorem at_eq_rowOf [Inhabited α] {m n : Nat} (x : (mat m n).Idx → α) (r : Fin m) (j : Fin n) :
    x (ix2 r j) = rowOf x r j.val := (rowOf_lt x r j.val j.isLt).symm

theorem rot_at (m n a b : Nat) (h : a + b = n) (x : (mat m n).Idx → α) (r : Fin m) (j k : Fin n)
    (hk : k.val = if j.val < a then j.val + b else j.val - a) : rot m n a b h x (ix2 r j) = x (ix2 r k) := by
  unfold rot
  by_cases hj : j.val < a
  · rw [if_pos hj] at hk
    refine (concatenate_pair_apply_left (1 : Fin (mat m n).rank) _ _ (concat_two m n a b h) (ix2 r j) rfl
      (ix2 r ⟨j.val, hj⟩ : (mat m a).Idx) ?_).trans ?_
    · intro c; fin_cases c <;> rfl
    · refine extractStridedSlice_apply _ x _ _ _ fun c => ?_
      fin_cases c
      · show r.val = 0 + r.val; omega
      · show k.val = b + j.val; omega
  · rw [if_neg hj] at hk
    have hjn := j.isLt
    have hb : j.val - a < b := by omega
    refine (concatenate_pair_apply_right (1 : Fin (mat m n).rank) _ _ (concat_two m n a b h) (ix2 r j) rfl rfl
      (ix2 r ⟨j.val - a, hb⟩ : (mat m b).Idx) ?_ ?_).trans ?_
    · intro c hc
      fin_cases c
      · rfl
      · exact absurd rfl hc
    · show j.val - a + a = j.val; omega
    · refine extractStridedSlice_apply _ x _ _ _ fun c => ?_
      fin_cases c
      · show r.val = 0 + r.val; omega
      · show k.val = 0 + (j.val - a); omega

theorem rowOf_rot [Inhabited α] (m n a b : Nat) (h : a + b = n) (x : (mat m n).Idx → α) (r : Fin m) (j : Nat)
    (hj : j < n) : rowOf (rot m n a b h x) r j = if j < a then rowOf x r (j + b) else rowOf x r (j - a) := by
  rw [rowOf_lt _ _ _ hj]
  by_cases hja : j < a
  · rw [if_pos hja, rowOf_lt x r (j + b) (by omega)]
    exact rot_at m n a b h x r _ _ (by simp [hja])
  · rw [if_neg hja, rowOf_lt x r (j - a) (by omega)]
    exact rot_at m n a b h x r _ _ (by simp [hja])

end Cert.Lanes
-- ==== Proof.Words.lean ====
/- Which half of its block a lane is in, and the lane's number modulo 128, as the kernel computes them from lane numbers. -/
module

public import proofs.«01_k».proof.Proof.Lanes

@[expose] public section

set_option maxRecDepth 16384

noncomputable section

namespace Cert.Words
open Idealize.ShloMosaic Idealize.ShloMosaic.ValueIdx Cert.KernelIdeal Cert.Lanes

/-- The lane numbers of a matrix. -/
def laneM (m n : Nat) (h : (mat m n).Iotas .tc 32 [1]) : IVec (mat m n) 32 := iota .tc (mat m n) 32 [1] h

theorem laneM_at (m n : Nat) (h : (mat m n).Iotas .tc 32 [1]) (r : Fin m) (j : Fin n) :
    laneM m n h (ix2 r j) = BitVec.ofNat 32 j.val := by
  show BitVec.ofNat 32 (0 * n + j.val) = _
  rw [Nat.zero_mul, Nat.zero_add]

/-- The lane number divided by `w`, rounded down. -/
def floorM (s : Shape) (w : BitVec 32) (l : IVec s 32) : IVec s 32 :=
  select
    (andi
      (cmpi .ne
        (subi (extui 32 (cmpi .sgt l (broadcast s 0#32)) (by decide)) (extui 32 (cmpi .slt l (broadcast s 0#32)) (by decide)))
        (broadcast s (Scalar.subi (Scalar.extui (Scalar.cmpi .sgt w 0#32)) (Scalar.extui (Scalar.cmpi .slt w 0#32)))))
      (cmpi .ne (remsi l (broadcast s w)) (broadcast s 0#32)))
    (subi (divsi l (broadcast s w)) (broadcast s 1#32))
    (divsi l (broadcast s w))

/-- A word modulo `d`, with the sign of `d`. -/
def modM (s : Shape) (hB : s.Broadcasts s) (d : BitVec 32) (x : IVec s 32) : IVec s 32 :=
  select
    (andi
      (xori (cmpi .slt (remsi x (broadcast s d)) (broadcast s 0#32))
        (broadcastTo s (broadcast s (Scalar.cmpi .slt d 0#32)) hB))
      (cmpi .ne (remsi x (broadcast s d)) (broadcast s 0#32)))
    (addi (remsi x (broadcast s d)) (broadcast s d))
    (remsi x (broadcast s d))

/-- Two, as the kernel spells the divisor. -/
def two : BitVec 32 := Scalar.select (Scalar.cmpi .eq 2#32 0#32) 1#32 2#32

/-- One hundred and twenty-eight, as the kernel spells the divisor. -/
def block : BitVec 32 := Scalar.select (Scalar.cmpi .eq 128#32 0#32) 1#32 128#32

/-- Whether a lane is in the upper half of its block of `2 w`. -/
def upM (s : Shape) (hB : s.Broadcasts s) (w : BitVec 32) (l : IVec s 32) : IVec s 1 :=
  cmpi .eq (modM s hB two (floorM s w l)) (broadcast s 1#32)

/-- Whether a lane's number modulo 128 is below `c`. -/
def lowM (s : Shape) (hB : s.Broadcasts s) (c : BitVec 32) (l : IVec s 32) : IVec s 1 :=
  cmpi .slt (modM s hB block l) (broadcast s c)

/-- The one-entry shape, at which the words are evaluated. -/
abbrev one : Shape := ⟨0, ![]⟩

theorem one_bc : one.Broadcasts one := ⟨le_refl _, fun a => a.elim0⟩

theorem up_word : ∀ (b : Fin 7) (j : Fin 2048),
    upM one one_bc (BitVec.ofNat 32 (2 ^ b.val)) (fun _ => BitVec.ofNat 32 j.val) (fun a => a.elim0)
      = BitVec.ofBool (j.val.testBit b.val) := by decide +kernel

theorem low_word : ∀ (j : Fin 2048),
    lowM one one_bc 32#32 (fun _ => BitVec.ofNat 32 j.val) (fun a => a.elim0) = BitVec.ofBool (decide (j.val % 128 < 32))
    ∧ lowM one one_bc 64#32 (fun _ => BitVec.ofNat 32 j.val) (fun a => a.elim0)
      = BitVec.ofBool (decide (j.val % 128 < 64)) := by decide +kernel

theorem upM_at (s : Shape) (hB : s.Broadcasts s) (b : Fin 7) (l : IVec s 32) (i : s.Idx) (j : Nat) (hj : j < 2048)
    (hl : l i = BitVec.ofNat 32 j) : upM s hB (BitVec.ofNat 32 (2 ^ b.val)) l i = BitVec.ofBool (j.testBit b.val) := by
  rw [← up_word b ⟨j, hj⟩]
  show _ = upM one one_bc _ (fun _ => BitVec.ofNat 32 j) _
  rw [← hl]
  rfl

theorem low32_at (s : Shape) (hB : s.Broadcasts s) (l : IVec s 32) (i : s.Idx) (j : Nat) (hj : j < 2048)
    (hl : l i = BitVec.ofNat 32 j) : lowM s hB 32#32 l i = BitVec.ofBool (decide (j % 128 < 32)) := by
  rw [← (low_word ⟨j, hj⟩).1]
  show _ = lowM one one_bc _ (fun _ => BitVec.ofNat 32 j) _
  rw [← hl]
  rfl

theorem low64_at (s : Shape) (hB : s.Broadcasts s) (l : IVec s 32) (i : s.Idx) (j : Nat) (hj : j < 2048)
    (hl : l i = BitVec.ofNat 32 j) : lowM s hB 64#32 l i = BitVec.ofBool (decide (j % 128 < 64)) := by
  rw [← (low_word ⟨j, hj⟩).2]
  show _ = lowM one one_bc _ (fun _ => BitVec.ofNat 32 j) _
  rw [← hl]
  rfl

end Cert.Words
-- ==== Proof.Spec.lean ====
/- The problem's mathematics on one row, over the extended reals: the rotary mixing of the first 64 lanes of each block of
   128 and the Hadamard transform of each block. -/
module

public import Idealize.ShloMosaic.PureOps.Ideal.Laws

@[expose] public section

noncomputable section

namespace Cert.Spec
open Idealize.ShloMosaic

/-- One Hadamard stage: sums in the lower half of each block of `2^(b+1)`, differences in the upper half. -/
def hadStep (b : ℕ) (f : ℕ → EReal) (j : ℕ) : EReal :=
  if j.testBit b then f (j - 2 ^ b) - f j else f j + f (j + 2 ^ b)

/-- The first `n` Hadamard stages. -/
def hadN : ℕ → (ℕ → EReal) → ℕ → EReal
  | 0, f => f
  | n + 1, f => hadStep n (hadN n f)

/-- The rotary mixing, `c` and `s` the cosines and sines of the 32 frequencies. -/
def rope (c s f : ℕ → EReal) (j : ℕ) : EReal :=
  if j % 128 < 32 then f j * c (j % 32) - f (j + 32) * s (j % 32)
  else if j % 128 < 64 then f (j - 32) * s (j % 32) + f j * c (j % 32)
  else f j

/-- The mean of 128 entries. -/
def mean (f : ℕ → EReal) : EReal := (∑ k ∈ Finset.range 128, f k) * Ideal.ofBits .f32 0x3C000000#32

/-- The normalised row, `g` and `b` its scale and shift. -/
def norm (g b f : ℕ → EReal) (j : ℕ) : EReal :=
  Ideal.div (f j - mean f) (Ideal.sqrt (mean (fun k => (f k - mean f) * (f k - mean f)) + Ideal.ofBits .f32 0x3727C5AC#32)) * g j + b j

/-- A row mixed, transformed and scaled. -/
def turn (c s f : ℕ → EReal) (j : ℕ) : EReal := hadN 7 (rope c s f) j * Ideal.ofBits .f32 0x3DB504F3#32

/-- One score: the heads' rectified products of query and key, weighted and added up. -/
def score (q k w : ℕ → EReal) : EReal :=
  ∑ h ∈ Finset.range 16, max (∑ d ∈ Finset.range 128, q (128 * h + d) * k d) 0 * w h

/-- A lane with bit `b` clear has its partner in the same block. -/
theorem clear_lt {b m j : ℕ} (hb : b < 7) (hj : j < 128 * m) (hc : j.testBit b = false) : j + 2 ^ b < 128 * m := by
  have hd : (j / 2 ^ b) % 2 = 0 := by
    rw [Nat.testBit_eq_decide_div_mod_eq] at hc
    have := of_decide_eq_false hc; omega
  have hp : 128 = 2 ^ b * (2 * 2 ^ (6 - b)) := by
    rw [← Nat.pow_succ', ← Nat.pow_add]
    have : b + (6 - b).succ = 7 := by omega
    rw [this]
  have hpos : 0 < 2 ^ b := Nat.two_pow_pos b
  have h1 : 2 ^ b * (j / 2 ^ b) + j % 2 ^ b = j := Nat.div_add_mod j (2 ^ b)
  have h2 : j % 2 ^ b < 2 ^ b := Nat.mod_lt _ hpos
  have h3 : j / 2 ^ b < 2 * (2 ^ (6 - b) * m) := by
    rw [Nat.div_lt_iff_lt_mul hpos]
    calc j < 128 * m := hj
      _ = 2 * (2 ^ (6 - b) * m) * 2 ^ b := by rw [hp]; ring
  have h4 : j / 2 ^ b + 2 ≤ 2 * (2 ^ (6 - b) * m) := by omega
  have h5 : 2 ^ b * (j / 2 ^ b + 2) ≤ 2 ^ b * (2 * (2 ^ (6 - b) * m)) := Nat.mul_le_mul_left _ h4
  have h6 : 2 ^ b * (2 * (2 ^ (6 - b) * m)) = 128 * m := by rw [hp]; ring
  rw [h6, Nat.mul_add] at h5
  omega

theorem set_le {b j : ℕ} (hc : j.testBit b = true) : 2 ^ b ≤ j := Nat.ge_two_pow_of_testBit hc

theorem hadStep_congr {b m : ℕ} (hb : b < 7) {f g : ℕ → EReal} (h : ∀ j < 128 * m, f j = g j) :
    ∀ j < 128 * m, hadStep b f j = hadStep b g j := by
  intro j hj
  unfold hadStep
  by_cases hc : j.testBit b = true
  · rw [if_pos hc, if_pos hc, h j hj, h (j - 2 ^ b) (lt_of_le_of_lt (Nat.sub_le _ _) hj)]
  · have := clear_lt hb hj (by simpa using hc)
    rw [if_neg hc, if_neg hc, h j hj, h _ this]

theorem hadN_congr {m : ℕ} {f g : ℕ → EReal} (h : ∀ j < 128 * m, f j = g j) :
    ∀ n ≤ 7, ∀ j < 128 * m, hadN n f j = hadN n g j
  | 0, _ => h
  | n + 1, hn => hadStep_congr (by omega) (hadN_congr h n (by omega))

theorem testBit_shift {a b j : ℕ} (hb : b < 7) : (128 * a + j).testBit b = j.testBit b := by
  have : 128 * a + j = 2 ^ 7 * a + j := by norm_num
  rw [Nat.testBit_eq_decide_div_mod_eq, Nat.testBit_eq_decide_div_mod_eq]
  have hp : 128 = 2 ^ b * (2 * 2 ^ (6 - b)) := by
    rw [← Nat.pow_succ', ← Nat.pow_add]
    have : b + (6 - b).succ = 7 := by omega
    rw [this]
  have e : (128 * a + j) / 2 ^ b = 2 * (2 ^ (6 - b) * a) + j / 2 ^ b := by
    have : 128 * a + j = j + 2 ^ b * (2 * (2 ^ (6 - b) * a)) := by
      conv_lhs => rw [hp]
      ring
    rw [this, Nat.add_mul_div_left _ _ (Nat.two_pow_pos b)]
    omega
  rw [e]
  congr 1
  refine propext ?_
  omega

/-- The transform acts on each block of 128 by itself. -/
theorem hadN_shift (a : ℕ) (f : ℕ → EReal) : ∀ n ≤ 7, ∀ j, hadN n f (128 * a + j) = hadN n (fun j => f (128 * a + j)) j
  | 0, _, _ => rfl
  | n + 1, hn, j => by
    show hadStep n _ _ = hadStep n _ _
    unfold hadStep
    rw [testBit_shift (by omega)]
    by_cases hc : j.testBit n = true
    · have hle := set_le hc
      have e : 128 * a + j - 2 ^ n = 128 * a + (j - 2 ^ n) := by omega
      rw [if_pos hc, if_pos hc, e, hadN_shift a f n (by omega), hadN_shift a f n (by omega)]
    · rw [if_neg hc, if_neg hc, Nat.add_assoc, hadN_shift a f n (by omega), hadN_shift a f n (by omega)]

theorem rope_shift (a : ℕ) (c s f : ℕ → EReal) (j : ℕ) :
    rope c s f (128 * a + j) = rope c s (fun j => f (128 * a + j)) j := by
  unfold rope
  have h1 : (128 * a + j) % 128 = j % 128 := by omega
  have h2 : (128 * a + j) % 32 = j % 32 := by omega
  rw [h1, h2]
  by_cases hA : j % 128 < 32
  · rw [if_pos hA, if_pos hA, Nat.add_assoc]
  · rw [if_neg hA, if_neg hA]
    by_cases hB : j % 128 < 64
    · have e : 128 * a + j - 32 = 128 * a + (j - 32) := by omega
      rw [if_pos hB, if_pos hB, e]
    · rw [if_neg hB, if_neg hB]

theorem rope_congr {m : ℕ} (c s : ℕ → EReal) {f g : ℕ → EReal} (h : ∀ j < 128 * m, f j = g j) :
    ∀ j < 128 * m, rope c s f j = rope c s g j := by
  intro j hj
  unfold rope
  by_cases hA : j % 128 < 32
  · rw [if_pos hA, if_pos hA, h j hj, h (j + 32) (by omega)]
  · rw [if_neg hA, if_neg hA]
    by_cases hB : j % 128 < 64
    · rw [if_pos hB, if_pos hB, h j hj, h (j - 32) (by omega)]
    · rw [if_neg hB, if_neg hB, h j hj]

end Cert.Spec
-- ==== Proof.Rows.lean ====
/- The two score calls' passes over their lanes, as whole-matrix functions, and what each leaves in a row. -/
module

public import proofs.«01_k».proof.Proof.Words
public import proofs.«01_k».proof.Proof.Spec
public import Idealize.ShloMosaic.PureOps.Ideal.Laws

@[expose] public section

set_option maxRecDepth 16384

noncomputable section

namespace Cert.Rows
open Idealize.ShloMosaic Idealize.ShloMosaic.ValueIdx Cert.Lanes Cert.Words Cert.Spec

variable {F : FTy → Type} [FloatOps F]

/-- A row of a real matrix, zero past the end. -/
def row {m n : Nat} (x : FVec Ideal (mat m n) .f32) (r : Fin m) (j : Nat) : EReal :=
  if h : j < n then x (ix2 r ⟨j, h⟩) else 0

theorem row_lt {m n : Nat} (x : FVec Ideal (mat m n) .f32) (r : Fin m) (j : Nat) (h : j < n) :
    row x r j = x (ix2 r ⟨j, h⟩) := dif_pos h

theorem at_row {m n : Nat} (x : FVec Ideal (mat m n) .f32) (r : Fin m) (j : Fin n) : x (ix2 r j) = row x r j.val :=
  (row_lt x r j.val j.isLt).symm

theorem row_rot (m n a b : Nat) (h : a + b = n) (x : FVec Ideal (mat m n) .f32) (r : Fin m) (j : Nat) (hj : j < n) :
    row (rot m n a b h x) r j = if j < a then row x r (j + b) else row x r (j - a) := by
  rw [row_lt _ _ _ hj]
  by_cases hja : j < a
  · rw [if_pos hja, row_lt x r (j + b) (by omega)]
    exact rot_at m n a b h x r _ _ (by simp [hja])
  · rw [if_neg hja, row_lt x r (j - a) (by omega)]
    exact rot_at m n a b h x r _ _ (by simp [hja])

theorem select_bit {s : Shape} {α : Type} (m : IVec s 1) (x y : s.Idx → α) (i : s.Idx) (b : Bool)
    (h : m i = BitVec.ofBool b) : select m x y i = if b then x i else y i := by
  show (if m i = 1 then x i else y i) = _
  rw [h]; cases b <;> rfl

/-! ## A Hadamard stage -/

/-- One stage at half-width `a`, the block's complement `b`, `w` the half-width's word. -/
def hadM (m n a b : Nat) (h : a + b = n) (hB : (mat m n).Broadcasts (mat m n)) (w : BitVec 32) (l : IVec (mat m n) 32)
    (x : FVec F (mat m n) .f32) : FVec F (mat m n) .f32 :=
  select (upM (mat m n) hB w l) (subf (rot m n a b h x) x) (addf x (rot m n b a (by omega) x))

theorem row_hadM (m c : Nat) (hc : c ≤ 16) (hB : (mat m (128 * c)).Broadcasts (mat m (128 * c)))
    (hI : (mat m (128 * c)).Iotas .tc 32 [1]) (k : Fin 7) (b : Nat) (h : 2 ^ k.val + b = 128 * c)
    (x : FVec Ideal (mat m (128 * c)) .f32) (r : Fin m) (j : Nat) (hj : j < 128 * c) :
    row (hadM (F := Ideal) m (128 * c) (2 ^ k.val) b h hB (BitVec.ofNat 32 (2 ^ k.val)) (laneM m (128 * c) hI) x) r j
      = hadStep k.val (row x r) j := by
  have hbit := upM_at (mat m (128 * c)) hB k (laneM m (128 * c) hI) (ix2 r ⟨j, hj⟩) j (by omega)
    (laneM_at m (128 * c) hI r ⟨j, hj⟩)
  rw [row_lt _ _ _ hj]
  refine (select_bit _ _ _ _ _ hbit).trans ?_
  unfold hadStep
  by_cases ht : j.testBit k.val = true
  · rw [if_pos ht, if_pos ht]
    have hle := set_le ht
    show rot m (128 * c) _ b h x (ix2 r ⟨j, hj⟩) - x (ix2 r ⟨j, hj⟩) = _
    rw [← row_lt x r j hj, ← row_lt (rot m (128 * c) _ b h x) r j hj, row_rot m (128 * c) _ b h x r j hj, if_neg (by omega)]
  · rw [if_neg ht, if_neg ht]
    have hlt := clear_lt k.isLt hj (by simpa using ht)
    show x (ix2 r ⟨j, hj⟩) + rot m (128 * c) b _ _ x (ix2 r ⟨j, hj⟩) = _
    rw [← row_lt x r j hj, ← row_lt (rot m (128 * c) b _ _ x) r j hj, row_rot m (128 * c) b _ _ x r j hj, if_pos (by omega)]

/-- All seven stages. -/
def hadAll (m n : Nat) (hn : 128 ≤ n) (hB : (mat m n).Broadcasts (mat m n)) (l : IVec (mat m n) 32)
    (x : FVec F (mat m n) .f32) : (k : Nat) → k ≤ 7 → FVec F (mat m n) .f32
  | 0, _ => x
  | k + 1, hk => hadM m n (2 ^ k) (n - 2 ^ k)
      (by have : 2 ^ k ≤ 2 ^ 7 := Nat.pow_le_pow_right (by decide) (by omega)
          omega)
      hB (BitVec.ofNat 32 (2 ^ k)) l (hadAll m n hn hB l x k (by omega))

theorem row_hadAll (m c : Nat) (hc : c ≤ 16) (hn : 128 ≤ 128 * c) (hB : (mat m (128 * c)).Broadcasts (mat m (128 * c)))
    (hI : (mat m (128 * c)).Iotas .tc 32 [1]) (x : FVec Ideal (mat m (128 * c)) .f32) (r : Fin m) :
    ∀ (k : Nat) (hk : k ≤ 7) (j : Nat), j < 128 * c →
      row (hadAll (F := Ideal) m (128 * c) hn hB (laneM m (128 * c) hI) x k hk) r j = hadN k (row x r) j
  | 0, _, _, _ => rfl
  | k + 1, hk, j, hj => by
    refine (row_hadM m c hc hB hI ⟨k, by omega⟩ _ _ _ r j hj).trans ?_
    exact hadStep_congr (by omega) (row_hadAll m c hc hn hB hI x r k (by omega)) j hj

/-! ## The rotary mixing -/

/-- The rotary mixing of a matrix, `C` and `S` its cosines and sines lane by lane. -/
def ropeM (m n : Nat) (hn : 32 + (n - 32) = n) (hB : (mat m n).Broadcasts (mat m n)) (l : IVec (mat m n) 32)
    (C S x : FVec F (mat m n) .f32) : FVec F (mat m n) .f32 :=
  select (lowM (mat m n) hB 32#32 l)
    (subf (mulf x C) (mulf (rot m n (n - 32) 32 (by omega) x) S))
    (select (lowM (mat m n) hB 64#32 l) (addf (mulf (rot m n 32 (n - 32) hn x) S) (mulf x C)) x)

theorem row_ropeM (m c : Nat) (hc : c ≤ 16) (hn : 32 + (128 * c - 32) = 128 * c)
    (hB : (mat m (128 * c)).Broadcasts (mat m (128 * c)))
    (hI : (mat m (128 * c)).Iotas .tc 32 [1]) (C S x : FVec Ideal (mat m (128 * c)) .f32) (r : Fin m) (cs sn : ℕ → EReal)
    (hC : ∀ j, j < 128 * c → row C r j = cs (j % 32)) (hS : ∀ j, j < 128 * c → row S r j = sn (j % 32))
    (j : Nat) (hj : j < 128 * c) :
    row (ropeM (F := Ideal) m (128 * c) hn hB (laneM m (128 * c) hI) C S x) r j = rope cs sn (row x r) j := by
  have h32 := low32_at (mat m (128 * c)) hB (laneM m (128 * c) hI) (ix2 r ⟨j, hj⟩) j (by omega)
    (laneM_at m (128 * c) hI r ⟨j, hj⟩)
  have h64 := low64_at (mat m (128 * c)) hB (laneM m (128 * c) hI) (ix2 r ⟨j, hj⟩) j (by omega)
    (laneM_at m (128 * c) hI r ⟨j, hj⟩)
  rw [row_lt _ _ _ hj]
  refine (select_bit _ _ _ _ _ h32).trans ?_
  unfold rope
  by_cases hA : j % 128 < 32
  · rw [if_pos (by simpa using hA), if_pos hA]
    show x (ix2 r ⟨j, hj⟩) * C (ix2 r ⟨j, hj⟩) - rot m (128 * c) _ 32 _ x (ix2 r ⟨j, hj⟩) * S (ix2 r ⟨j, hj⟩) = _
    rw [← row_lt x r j hj, ← row_lt C r j hj, ← row_lt S r j hj, ← row_lt (rot m (128 * c) _ 32 _ x) r j hj,
      row_rot m (128 * c) _ 32 _ x r j hj, if_pos (by omega), hC j hj, hS j hj]
  · rw [if_neg (by simpa using hA), if_neg hA]
    refine (select_bit _ _ _ _ _ h64).trans ?_
    by_cases hD : j % 128 < 64
    · rw [if_pos (by simpa using hD), if_pos hD]
      show rot m (128 * c) 32 _ _ x (ix2 r ⟨j, hj⟩) * S (ix2 r ⟨j, hj⟩) + x (ix2 r ⟨j, hj⟩) * C (ix2 r ⟨j, hj⟩) = _
      rw [← row_lt x r j hj, ← row_lt C r j hj, ← row_lt S r j hj, ← row_lt (rot m (128 * c) 32 _ _ x) r j hj,
        row_rot m (128 * c) 32 _ _ x r j hj, if_neg (by omega), hC j hj, hS j hj]
    · rw [if_neg (by simpa using hD), if_neg hD, ← row_lt x r j hj]

end Cert.Rows
-- ==== Proof.ScoreModel.lean ====
/- The score call's block as one expression of its input blocks. -/
module

public import proofs.«01_k».proof.Proof.Rows
public import proofs.«01_k».proof.Proof.Gen.KernelIdeal.Frame

@[expose] public section

set_option maxRecDepth 16384

noncomputable section

namespace Cert.Score
open Idealize.ShloMosaic Idealize.ShloMosaic.ValueIdx Cert.KernelIdeal Cert.KernelIdeal.Gen Cert.Lanes Cert.Words Cert.Rows

variable {F : FTy → Type} [FloatOps F] {α : Type}

theorem slices_at (m n o c : Nat) (h : o + c ≤ n) : (mat m n).Slices ![0, o] (mat m c) := by
  refine ⟨rfl, fun x => ?_⟩
  fin_cases x
  · show 0 + m ≤ m; omega
  · exact h

/-- The projected queries of the block. -/
def proj (xq : FVec F S256x1536 .f32) (wq : FVec F S1536x2048 .f32) : FVec F S256x2048 .f32 :=
  transpose S256x2048 [1, 0]
    (matmul dot_S1536x2048_S256x1536_S2048x256_0_1_1_0_n_n none wq (shapeCast S256x1536 xq shapeCasts_S256x1536_S256x1536)
      (constant S2048x256 .f32 0x00000000#32))
    transposes_S2048x256_p1_0_S256x2048

/-- The first 32 columns, repeated along the lanes. -/
def tiled (c : FVec F S256x64 .f32) : FVec F S256x2048 .f32 :=
  concatenate S256x2048 1
    (List.replicate 16 ⟨S256x128, concatenate S256x128 1
      (List.replicate 4 ⟨S256x32, extractStridedSlice S256x32 ![0, 0] (shapeCast S256x64 c shapeCasts_S256x64_S256x64)
        slices_S256x64_o0_0_S256x32⟩)
      concatenates_S256x32_S256x32_S256x32_S256x32_S256x128_d1⟩)
    concatenates_S256x128_S256x128_S256x128_S256x128_S256x128_S256x128_S256x128_S256x128_S256x128_S256x128_S256x128_S256x128_S256x128_S256x128_S256x128_S256x128_S256x2048_d1

/-- The queries, mixed and transformed. -/
def query (xq : FVec F S256x1536 .f32) (wq : FVec F S1536x2048 .f32) (c s : FVec F S256x64 .f32) : FVec F S256x2048 .f32 :=
  mulf
    (hadAll 256 2048 (by decide) broadcasts_S256x2048_S256x2048 (laneM 256 2048 iota_S256x2048_d1_w32)
      (ropeM 256 2048 (by decide) broadcasts_S256x2048_S256x2048 (laneM 256 2048 iota_S256x2048_d1_w32) (tiled c) (tiled s)
        (proj xq wq)) 7 (by decide))
    (broadcast S256x2048 (Scalar.ofBits .f32 0x3DB504F3#32))

/-- One head's share of the scores. -/
def head (q : FVec F S256x2048 .f32) (k : FVec F S2048x128 .f32) (w : FVec F S256x16 .f32) (h : Nat) (hh : h < 16) :
    FVec F S256x2048 .f32 :=
  mulf
    (maximumf
      (matmul dot_S256x128_S2048x128_S256x2048_1_1_0_0_n_n none
        (extractStridedSlice S256x128 ![0, 128 * h] q (slices_at 256 2048 (128 * h) 128 (by omega))) k
        (constant S256x2048 .f32 0x00000000#32))
      (broadcast S256x2048 (Scalar.ofBits .f32 0x00000000#32)))
    (broadcastTo S256x2048 (extractStridedSlice S256x1 ![0, h] w (slices_at 256 16 h 1 (by omega)))
      broadcasts_S256x1_S256x2048)

/-- The first `h + 1` heads' shares, added up in sequence. -/
def heads (q : FVec F S256x2048 .f32) (k : FVec F S2048x128 .f32) (w : FVec F S256x16 .f32) :
    (h : Nat) → h < 16 → FVec F S256x2048 .f32
  | 0, hh => head q k w 0 hh
  | h + 1, hh => addf (heads q k w h (by omega)) (head q k w (h + 1) hh)

/-- The scores of a block. -/
def score (xq : FVec F S256x1536 .f32) (wq : FVec F S1536x2048 .f32) (c s : FVec F S256x64 .f32) (k : FVec F S2048x128 .f32)
    (w : FVec F S256x16 .f32) : FVec F S256x2048 .f32 :=
  addf (heads (query xq wq c s) (shapeCast S2048x128 k shapeCasts_S2048x128_S2048x128)
    (shapeCast S256x16 w shapeCasts_S256x16_S256x16) 15 (by decide)) (broadcast S256x2048 (Scalar.ofBits .f32 0x00000000#32))

theorem pay_eq (x0 : Vec F S256x1536 .f32) (x1 : Vec F S1536x2048 .f32) (x2 : Vec F S256x64 .f32) (x3 : Vec F S256x64 .f32)
    (x4 : Vec F S2048x128 .f32) (x5 : Vec F S256x16 .f32) :
    out1_6 x0 x1 x2 x3 x4 x5 = View.canon [⟨r1_5, score (View.ld x0 r1_1) (View.ld x1 r1_0) (View.ld x2 r1_2) (View.ld x3 r1_2)
      (View.ld x4 r1_3) (View.ld x5 r1_4)⟩] := by
  sl_kernel_rfl

theorem out_eq (x0 : Vec F S256x1536 .f32) (x1 : Vec F S1536x2048 .f32) (x2 : Vec F S256x64 .f32) (x3 : Vec F S256x64 .f32)
    (x4 : Vec F S2048x128 .f32) (x5 : Vec F S256x16 .f32) :
    out1_6 x0 x1 x2 x3 x4 x5 = score x0 x1 x2 x3 x4 x5 := by
  have hz : (![0, 0] : Fin 2 → Nat) = fun _ => 0 := by funext a; fin_cases a <;> rfl
  rw [pay_eq]
  refine (View.canon_unit_zero (S := S256x2048) hz _ _).trans ?_
  rw [View.ld_unit_zero (S := S256x1536) hz, View.ld_unit_zero (S := S1536x2048) hz, View.ld_unit_zero (S := S256x64) hz,
    View.ld_unit_zero (S := S256x64) hz, View.ld_unit_zero (S := S2048x128) hz, View.ld_unit_zero (S := S256x16) hz]

end Cert.Score
-- ==== Proof.KeyModel.lean ====
/- The key call's two blocks as expressions of its input blocks. -/
module

public import proofs.«01_k».proof.Proof.ScoreModel

@[expose] public section

set_option maxRecDepth 16384

noncomputable section

namespace Cert.Key
open Idealize.ShloMosaic Idealize.ShloMosaic.ValueIdx Cert.KernelIdeal Cert.KernelIdeal.Gen Cert.Lanes Cert.Words Cert.Rows
open Cert.Score (slices_at)

variable {F : FTy → Type} [FloatOps F] {α : Type}

/-- The projected keys. -/
def proj (hid : FVec F S2048x2048 .f32) (wk : FVec F S2048x128 .f32) : FVec F S2048x128 .f32 :=
  transpose S2048x128 [1, 0]
    (matmul dot_S2048x128_S2048x2048_S128x2048_0_1_1_0_n_n none wk (shapeCast S2048x2048 hid shapeCasts_S2048x2048_S2048x2048)
      (constant S128x2048 .f32 0x00000000#32))
    transposes_S128x2048_p1_0_S2048x128

/-- The first `n + 1` groups of eight columns, added up in sequence. -/
def groups (x : FVec F S2048x128 .f32) : (n : Nat) → n < 16 → FVec F S2048x8 .f32
  | 0, _ => extractStridedSlice S2048x8 ![0, 0] x (slices_at 2048 128 0 8 (by decide))
  | n + 1, h => addf (groups x n (by omega)) (extractStridedSlice S2048x8 ![0, 8 * (n + 1)] x (slices_at 2048 128 _ 8 (by omega)))

/-- The two halves of the columns added. -/
def halves (m c n : Nat) (h : c + c = n) (x : FVec F (mat m n) .f32) : FVec F (mat m c) .f32 :=
  addf (extractStridedSlice (mat m c) ![0, 0] x (slices_at m n 0 c (by omega)))
    (extractStridedSlice (mat m c) ![0, c] x (slices_at m n c c (by omega)))

/-- The sum of every row. -/
def total (x : FVec F S2048x128 .f32) : FVec F S2048x1 .f32 :=
  halves 2048 1 2 rfl (halves 2048 2 4 rfl (halves 2048 4 8 rfl (groups x 15 (by decide))))

/-- The mean of every row. -/
def mean (x : FVec F S2048x128 .f32) : FVec F S2048x1 .f32 :=
  mulf (total x) (broadcast S2048x1 (Scalar.ofBits .f32 0x3C000000#32))

/-- The rows less their means. -/
def centred (x : FVec F S2048x128 .f32) : FVec F S2048x128 .f32 :=
  subf x (broadcastTo S2048x128 (mean x) broadcasts_S2048x1_S2048x128)

/-- The normalised keys. -/
def normed (x : FVec F S2048x128 .f32) (g b : FVec F S1x128 .f32) : FVec F S2048x128 .f32 :=
  addf
    (mulf
      (divf (centred x)
        (broadcastTo S2048x128
          (sqrt (addf (mean (mulf (centred x) (centred x))) (broadcast S2048x1 (Scalar.ofBits .f32 0x3727C5AC#32))))
          broadcasts_S2048x1_S2048x128))
      (broadcastTo S2048x128 (shapeCast S1x128 g shapeCasts_S1x128_S1x128) broadcasts_S1x128_S2048x128))
    (broadcastTo S2048x128 (shapeCast S1x128 b shapeCasts_S1x128_S1x128) broadcasts_S1x128_S2048x128)

/-- The first 32 columns, four times. -/
def tiled (c : FVec F S2048x64 .f32) : FVec F S2048x128 .f32 :=
  concatenate S2048x128 1
    (List.replicate 4 ⟨S2048x32, extractStridedSlice S2048x32 ![0, 0] (shapeCast S2048x64 c shapeCasts_S2048x64_S2048x64)
      slices_S2048x64_o0_0_S2048x32⟩)
    concatenates_S2048x32_S2048x32_S2048x32_S2048x32_S2048x128_d1

/-- The keys, normalised, mixed and transformed. -/
def key (hid : FVec F S2048x2048 .f32) (wk : FVec F S2048x128 .f32) (g b : FVec F S1x128 .f32) (c s : FVec F S2048x64 .f32) :
    FVec F S2048x128 .f32 :=
  mulf
    (hadAll 2048 128 (by decide) broadcasts_S2048x128_S2048x128 (laneM 2048 128 iota_S2048x128_d1_w32)
      (ropeM 2048 128 (by decide) broadcasts_S2048x128_S2048x128 (laneM 2048 128 iota_S2048x128_d1_w32) (tiled c) (tiled s)
        (normed (proj hid wk) g b)) 7 (by decide))
    (broadcast S2048x128 (Scalar.ofBits .f32 0x3DB504F3#32))

/-- The scaled head weights. -/
def weight (w : FVec F S2048x16 .f32) (hid : FVec F S2048x2048 .f32) : FVec F S2048x16 .f32 :=
  transpose S2048x16 [1, 0]
    (mulf
      (matmul dot_S2048x16_S2048x2048_S16x2048_0_1_1_0_n_n none w (shapeCast S2048x2048 hid shapeCasts_S2048x2048_S2048x2048)
        (constant S16x2048 .f32 0x00000000#32))
      (broadcast S16x2048 (Scalar.ofBits .f32 0x3CB504F3#32)))
    transposes_S16x2048_p1_0_S2048x16

theorem key_pay_eq (x0 : Vec F S2048x2048 .f32) (x1 : Vec F S2048x128 .f32) (x2 : Vec F S1x128 .f32) (x3 : Vec F S1x128 .f32)
    (x4 : Vec F S2048x64 .f32) (x5 : Vec F S2048x64 .f32) (x6 : Vec F S2048x16 .f32) :
    out0_7 x0 x1 x2 x3 x4 x5 x6 = View.canon [⟨r0_0, key (View.ld x0 r0_1) (View.ld x1 r0_0) (View.ld x2 r0_2) (View.ld x3 r0_2)
      (View.ld x4 r0_3) (View.ld x5 r0_3)⟩] := by
  sl_kernel_rfl

theorem weight_pay_eq (x0 : Vec F S2048x2048 .f32) (x1 : Vec F S2048x128 .f32) (x2 : Vec F S1x128 .f32) (x3 : Vec F S1x128 .f32)
    (x4 : Vec F S2048x64 .f32) (x5 : Vec F S2048x64 .f32) (x6 : Vec F S2048x16 .f32) :
    out0_8 x0 x1 x2 x3 x4 x5 x6 = View.canon [⟨r0_4, weight (View.ld x6 r0_4) (View.ld x0 r0_1)⟩] := by
  sl_kernel_rfl

theorem key_eq (x0 : Vec F S2048x2048 .f32) (x1 : Vec F S2048x128 .f32) (x2 : Vec F S1x128 .f32) (x3 : Vec F S1x128 .f32)
    (x4 : Vec F S2048x64 .f32) (x5 : Vec F S2048x64 .f32) (x6 : Vec F S2048x16 .f32) :
    out0_7 x0 x1 x2 x3 x4 x5 x6 = key x0 x1 x2 x3 x4 x5 := by
  have hz : (![0, 0] : Fin 2 → Nat) = fun _ => 0 := by funext a; fin_cases a <;> rfl
  rw [key_pay_eq]
  refine (View.canon_unit_zero (S := S2048x128) hz _ _).trans ?_
  rw [View.ld_unit_zero (S := S2048x2048) hz, View.ld_unit_zero (S := S2048x128) hz, View.ld_unit_zero (S := S1x128) hz,
    View.ld_unit_zero (S := S1x128) hz, View.ld_unit_zero (S := S2048x64) hz, View.ld_unit_zero (S := S2048x64) hz]

theorem weight_eq (x0 : Vec F S2048x2048 .f32) (x1 : Vec F S2048x128 .f32) (x2 : Vec F S1x128 .f32) (x3 : Vec F S1x128 .f32)
    (x4 : Vec F S2048x64 .f32) (x5 : Vec F S2048x64 .f32) (x6 : Vec F S2048x16 .f32) :
    out0_8 x0 x1 x2 x3 x4 x5 x6 = weight x6 x0 := by
  have hz : (![0, 0] : Fin 2 → Nat) = fun _ => 0 := by funext a; fin_cases a <;> rfl
  rw [weight_pay_eq]
  refine (View.canon_unit_zero (S := S2048x16) hz _ _).trans ?_
  rw [View.ld_unit_zero (S := S2048x16) hz, View.ld_unit_zero (S := S2048x2048) hz]

end Cert.Key
-- ==== Proof.KernelRead.lean ====
/- The score call's and the key call's blocks, read at an index. -/
module

public import proofs.«01_k».proof.Proof.KeyModel
public import Idealize.ShloMosaic.Lib.ValueIdx
public import Idealize.ShloMosaic.Lib.ValueLayout
public import Idealize.ShloMosaic.Lib.Pipeline.Value

@[expose] public section

set_option maxRecDepth 16384

noncomputable section

namespace Cert.Read
open Idealize.ShloMosaic Idealize.ShloMosaic.ValueIdx Cert.KernelIdeal Cert.KernelIdeal.Gen Cert.Lanes Cert.Words Cert.Rows

/-! ## Products -/

/-- Columns of the left operand against rows of the right one. -/
theorem dot01 (M K N : Nat) (w : DotDims.WF (mat K M) (mat N K) (mat M N) [0] [1] [1] [0] [] []) (prec : Option ContractPrecision)
    (A : FVec Ideal (mat K M) .f32) (B : FVec Ideal (mat N K) .f32) (a : Fin M) (b : Fin N) :
    matmul (F := Ideal) (⟨[0], [1], [1], [0], [], [], w⟩ : DotDims _ _ _) prec A B (constant (mat M N) .f32 0x00000000#32) (ix2 a b)
      = ∑ c : Fin K, A (ix2 c a) * B (ix2 b c) := by
  show FloatOps.matmul _ prec A B _ (ix2 a b) = _
  rw [Ideal.matmul_constant_zero_apply,
    ← Equiv.sum_comp (contrEquiv1 (⟨[0], [1], [1], [0], [], [], w⟩ : DotDims (mat K M) (mat N K) (mat M N)) K rfl rfl).symm]
  refine Finset.sum_congr rfl fun c _ => ?_
  have hc := contrEquiv1_symm_val (⟨[0], [1], [1], [0], [], [], w⟩ : DotDims (mat K M) (mat N K) (mat M N)) K rfl rfl c
  have el : (⟨[0], [1], [1], [0], [], [], w⟩ : DotDims (mat K M) (mat N K) (mat M N)).lhsIdx (ix2 a b)
      ((contrEquiv1 _ K rfl rfl).symm c) = ix2 c a := by
    funext ax; apply Fin.ext
    match ax with
    | ⟨0, _⟩ => exact hc
    | ⟨1, _⟩ => rfl
  have er : (⟨[0], [1], [1], [0], [], [], w⟩ : DotDims (mat K M) (mat N K) (mat M N)).rhsIdx (ix2 a b)
      ((contrEquiv1 _ K rfl rfl).symm c) = ix2 b c := by
    funext ax; apply Fin.ext
    match ax with
    | ⟨0, _⟩ => rfl
    | ⟨1, _⟩ => exact hc
  rw [el, er]

/-- Rows of the left operand against rows of the right one. -/
theorem dot11 (M K N : Nat) (w : DotDims.WF (mat M K) (mat N K) (mat M N) [1] [1] [0] [0] [] []) (prec : Option ContractPrecision)
    (A : FVec Ideal (mat M K) .f32) (B : FVec Ideal (mat N K) .f32) (a : Fin M) (b : Fin N) :
    matmul (F := Ideal) (⟨[1], [1], [0], [0], [], [], w⟩ : DotDims _ _ _) prec A B (constant (mat M N) .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (mat M K) (mat N K) (mat M N)) K rfl rfl).symm]
  refine Finset.sum_congr rfl fun c _ => ?_
  have hc := contrEquiv1_symm_val (⟨[1], [1], [0], [0], [], [], w⟩ : DotDims (mat M K) (mat N K) (mat M N)) K rfl rfl c
  have el : (⟨[1], [1], [0], [0], [], [], w⟩ : DotDims (mat M K) (mat N K) (mat M N)).lhsIdx (ix2 a b)
      ((contrEquiv1 _ K rfl rfl).symm c) = ix2 a c := by
    funext ax; apply Fin.ext
    match ax with
    | ⟨0, _⟩ => rfl
    | ⟨1, _⟩ => exact hc
  have er : (⟨[1], [1], [0], [0], [], [], w⟩ : DotDims (mat M K) (mat N K) (mat M N)).rhsIdx (ix2 a b)
      ((contrEquiv1 _ K rfl rfl).symm c) = ix2 b c := by
    funext ax; apply Fin.ext
    match ax with
    | ⟨0, _⟩ => rfl
    | ⟨1, _⟩ => exact hc
  rw [el, er]

theorem cast_self {s : Shape} {α : Type} (x : s.Idx → α) (h : s.ShapeCasts s) : shapeCast s x h = x := by
  funext j
  exact shapeCast_apply x h j j rfl

theorem row_slice (m n o c : Nat) (h : (mat m n).Slices ![0, o] (mat m c)) (x : FVec Ideal (mat m n) .f32) (r : Fin m) (j : Nat)
    (hj : j < c) : row (extractStridedSlice (mat m c) ![0, o] x h) r j = row x r (o + j) := by
  have hb : o + c ≤ n := h.2 1
  rw [row_lt _ _ _ hj, row_lt x r (o + j) (by omega)]
  exact slice2_axis1_apply o x h r ⟨j, hj⟩ ⟨o + j, by omega⟩ rfl

/-- Copies of one matrix side by side. -/
theorem row_copies (m c n N : Nat) (x : FVec Ideal (mat m c) .f32)
    (h : Shape.Concatenates ((List.replicate N (⟨mat m c, x⟩ : (s : Shape) × (s.Idx → Ideal .f32))).map (·.1)) (mat m n) 1)
    (hc : 0 < c) (r : Fin m) (j : Nat) (hj : j < n) :
    row (concatenate (mat m n) 1 (List.replicate N ⟨mat m c, x⟩) h) r j = row x r (j % c) := by
  have hlt := Nat.mod_lt j hc
  rw [row_lt _ _ _ hj, row_lt x r _ hlt]
  refine concatenate_replicate_apply (t := mat m n) (s₁ := mat m c) 1 N x h rfl (ix2 r ⟨j, hj⟩) (ix2 r ⟨j % c, hlt⟩) rfl
    fun b hb => ?_
  fin_cases b
  · rfl
  · exact absurd rfl hb

/-! ## The score call -/

theorem score_tiled (c : FVec Ideal S256x64 .f32) (r : Fin 256) (j : Nat) (hj : j < 2048) :
    row (m := 256) (n := 2048) (Score.tiled (F := Ideal) c) r j = row (m := 256) (n := 64) c r (j % 32) := by
  unfold Score.tiled
  refine (row_copies 256 128 2048 16 _ _ (by decide) r j hj).trans ?_
  refine (row_copies 256 32 128 4 _ _ (by decide) r _ (Nat.mod_lt _ (by decide))).trans ?_
  refine (row_slice 256 64 0 32 _ _ r _ (Nat.mod_lt _ (by decide))).trans ?_
  rw [cast_self, Nat.zero_add, Nat.mod_mod_of_dvd _ (by decide)]

theorem score_proj (xq : FVec Ideal S256x1536 .f32) (wq : FVec Ideal S1536x2048 .f32) (r : Fin 256) (j : Fin 2048) :
    Score.proj (F := Ideal) xq wq (ix2 r j) = ∑ i : Fin 1536, wq (ix2 i j) * xq (ix2 r i) := by
  unfold Score.proj
  rw [cast_self]
  refine (transpose_ix2_apply _ _ r j).trans ?_
  exact dot01 2048 1536 256 _ none wq xq j r

theorem score_query (xq : FVec Ideal S256x1536 .f32) (wq : FVec Ideal S1536x2048 .f32) (c s : FVec Ideal S256x64 .f32)
    (r : Fin 256) (j : Nat) (hj : j < 2048) :
    row (m := 256) (n := 2048) (Score.query (F := Ideal) xq wq c s) r j
      = Spec.turn (row (m := 256) (n := 64) c r) (row (m := 256) (n := 64) s r)
          (row (m := 256) (n := 2048) (Score.proj (F := Ideal) xq wq) r) j := by
  rw [row_lt _ _ _ hj]
  show hadAll (F := Ideal) 256 2048 _ _ _ _ 7 _ (ix2 r ⟨j, hj⟩) * Ideal.ofBits .f32 0x3DB504F3#32 = _
  rw [← row_lt (hadAll (F := Ideal) 256 2048 _ _ _ _ 7 _) r j hj]
  refine congrArg (· * _) ?_
  refine (row_hadAll 256 16 (by decide) _ _ _ _ r 7 _ j hj).trans ?_
  refine Spec.hadN_congr (m := 16) (fun i hi => ?_) 7 (by decide) j hj
  exact row_ropeM 256 16 (by decide) _ _ _ _ _ _ r _ _ (fun i hi => score_tiled c r i hi) (fun i hi => score_tiled s r i hi) i hi

theorem score_head (q : FVec Ideal S256x2048 .f32) (k : FVec Ideal S2048x128 .f32) (w : FVec Ideal S256x16 .f32) (h : Nat)
    (hh : h < 16) (r : Fin 256) (c : Fin 2048) :
    Score.head (F := Ideal) q k w h hh (ix2 r c)
      = max (∑ d ∈ Finset.range 128, row (m := 256) (n := 2048) q r (128 * h + d) * row (m := 2048) (n := 128) k c d) 0
          * row (m := 256) (n := 16) w r h := by
  show max (matmul (F := Ideal) _ none _ k _ (ix2 r c)) (Ideal.ofBits .f32 0x00000000#32) * broadcastTo S256x2048 _ _ (ix2 r c) = _
  rw [Ideal.ofBits_zero_f32]
  refine congrArg₂ (fun a b => max a 0 * b) ?_ ?_
  · refine (dot11 256 128 2048 _ none _ k r c).trans ?_
    rw [Finset.sum_range]
    refine Finset.sum_congr rfl fun d _ => congrArg₂ (· * ·) ?_ (at_row k c d)
    exact (at_row _ r d).trans (row_slice 256 2048 (128 * h) 128 _ q r d.val d.isLt)
  · refine (broadcastTo_apply _ broadcasts_S256x1_S256x2048 (ix2 r c) (ix2 r (0 : Fin 1)) fun a => ?_).trans ?_
    · fin_cases a
      · rfl
      · rfl
    · exact (at_row _ r (0 : Fin 1)).trans (row_slice 256 16 h 1 _ w r 0 (by decide))

theorem score_heads (q : FVec Ideal S256x2048 .f32) (k : FVec Ideal S2048x128 .f32) (w : FVec Ideal S256x16 .f32)
    (r : Fin 256) (c : Fin 2048) : ∀ (n : Nat) (hn : n < 16),
    Score.heads (F := Ideal) q k w n hn (ix2 r c)
      = ∑ h ∈ Finset.range (n + 1),
          max (∑ d ∈ Finset.range 128, row (m := 256) (n := 2048) q r (128 * h + d) * row (m := 2048) (n := 128) k c d) 0
            * row (m := 256) (n := 16) w r h
  | 0, hn => by
    rw [Finset.sum_range_one]
    exact score_head q k w 0 hn r c
  | n + 1, hn => by
    rw [Finset.sum_range_succ, ← score_heads q k w r c n (by omega), ← score_head q k w (n + 1) hn r c]
    rfl

/-- A block of scores, read at an index. -/
theorem score_at (xq : FVec Ideal S256x1536 .f32) (wq : FVec Ideal S1536x2048 .f32) (cs sn : FVec Ideal S256x64 .f32)
    (k : FVec Ideal S2048x128 .f32) (w : FVec Ideal S256x16 .f32) (r : Fin 256) (c : Fin 2048) :
    Score.score (F := Ideal) xq wq cs sn k w (ix2 r c)
      = Spec.score (Spec.turn (row (m := 256) (n := 64) cs r) (row (m := 256) (n := 64) sn r)
          (row (m := 256) (n := 2048) (Score.proj (F := Ideal) xq wq) r)) (row (m := 2048) (n := 128) k c)
          (row (m := 256) (n := 16) w r) := by
  show Score.heads (F := Ideal) _ _ _ 15 _ (ix2 r c) + Ideal.ofBits .f32 0x00000000#32 = _
  rw [Ideal.ofBits_zero_f32, add_zero, cast_self, cast_self, score_heads]
  unfold Spec.score
  refine Finset.sum_congr rfl fun h hh => congrArg (fun a => max a 0 * _) (Finset.sum_congr rfl fun d hd => ?_)
  have h1 := Finset.mem_range.1 hh
  have h2 := Finset.mem_range.1 hd
  rw [score_query _ _ _ _ _ _ (by omega)]

/-! ## The key call -/

theorem key_tiled (c : FVec Ideal S2048x64 .f32) (r : Fin 2048) (j : Nat) (hj : j < 128) :
    row (m := 2048) (n := 128) (Key.tiled (F := Ideal) c) r j = row (m := 2048) (n := 64) c r (j % 32) := by
  unfold Key.tiled
  refine (row_copies 2048 32 128 4 _ _ (by decide) r j hj).trans ?_
  refine (row_slice 2048 64 0 32 _ _ r _ (Nat.mod_lt _ (by decide))).trans ?_
  rw [cast_self, Nat.zero_add]

theorem key_proj (hid : FVec Ideal S2048x2048 .f32) (wk : FVec Ideal S2048x128 .f32) (r : Fin 2048) (j : Fin 128) :
    Key.proj (F := Ideal) hid wk (ix2 r j) = ∑ i : Fin 2048, wk (ix2 i j) * hid (ix2 r i) := by
  unfold Key.proj
  rw [cast_self]
  refine (transpose_ix2_apply _ _ r j).trans ?_
  exact dot01 128 2048 2048 _ none wk hid j r

theorem row_halves (m c n : Nat) (h : c + c = n) (x : FVec Ideal (mat m n) .f32) (r : Fin m) (j : Nat) (hj : j < c) :
    row (Key.halves (F := Ideal) m c n h x) r j = row x r j + row x r (c + j) := by
  have e1 := row_slice m n 0 c (Score.slices_at m n 0 c (by omega)) x r j hj
  have e2 := row_slice m n c c (Score.slices_at m n c c (by omega)) x r j hj
  refine Eq.trans ?_ (congrArg₂ (· + ·) (e1.trans (congrArg (row x r) (Nat.zero_add j))) e2)
  show _ = row _ r j + row _ r j
  rw [row_lt _ _ _ hj, row_lt _ _ _ hj, row_lt _ _ _ hj]
  rfl

theorem row_groups (x : FVec Ideal S2048x128 .f32) (r : Fin 2048) (j : Nat) (hj : j < 8) : ∀ (n : Nat) (hn : n < 16),
    row (m := 2048) (n := 8) (Key.groups (F := Ideal) x n hn) r j
      = ∑ i ∈ Finset.range (n + 1), row (m := 2048) (n := 128) x r (8 * i + j)
  | 0, hn => by
    rw [Finset.sum_range_one]
    exact row_slice 2048 128 0 8 _ x r j hj
  | n + 1, hn => by
    rw [Finset.sum_range_succ, ← row_groups x r j hj n (by omega),
      ← row_slice 2048 128 (8 * (n + 1)) 8 (Score.slices_at 2048 128 _ 8 (by omega)) x r j hj, row_lt _ _ _ hj, row_lt _ _ _ hj,
      row_lt _ _ _ hj]
    rfl

theorem sum_eights (f : ℕ → EReal) : ∀ n : ℕ,
    ∑ k ∈ Finset.range (8 * n), f k
      = ∑ i ∈ Finset.range n, (f (8 * i + 0) + f (8 * i + 1) + f (8 * i + 2) + f (8 * i + 3) + f (8 * i + 4) + f (8 * i + 5)
          + f (8 * i + 6) + f (8 * i + 7))
  | 0 => rfl
  | n + 1 => by
    rw [Finset.sum_range_succ, ← sum_eights f n, show 8 * (n + 1) = 8 * n + 1 + 1 + 1 + 1 + 1 + 1 + 1 + 1 by omega]
    simp only [Finset.sum_range_succ]
    simp only [← add_assoc (G := EReal)]
    rfl

theorem row_total (x : FVec Ideal S2048x128 .f32) (r : Fin 2048) :
    Key.total (F := Ideal) x (ix2 r (0 : Fin 1)) = ∑ k ∈ Finset.range 128, row (m := 2048) (n := 128) x r k := by
  refine (at_row (m := 2048) (n := 1) _ r (0 : Fin 1)).trans ?_
  unfold Key.total
  show row (Key.halves (F := Ideal) 2048 1 2 rfl _) r 0 = _
  have hg := fun j hj => row_groups x r j hj 15 (by decide)
  have h4 := fun j (hj : j < 4) => row_halves 2048 4 8 rfl (Key.groups (F := Ideal) x 15 (by decide)) r j hj
  have h2 := fun j (hj : j < 2) => row_halves 2048 2 4 rfl
    (Key.halves 2048 4 8 rfl (Key.groups (F := Ideal) x 15 (by decide))) r j hj
  rw [row_halves 2048 1 2 rfl _ r 0 (by decide), h2 0 (by decide), h2 (1 + 0) (by decide), h4 0 (by decide), h4 (2 + 0) (by decide),
    h4 (1 + 0) (by decide), h4 (2 + (1 + 0)) (by decide)]
  refine Eq.trans ?_ (sum_eights (row (m := 2048) (n := 128) x r) 16).symm
  simp only [Finset.sum_add_distrib]
  refine Eq.trans (congrArg₂ (· + ·)
    (congrArg₂ (· + ·) (congrArg₂ (· + ·) (hg 0 (by decide)) (hg (4 + 0) (by decide)))
      (congrArg₂ (· + ·) (hg (2 + 0) (by decide)) (hg (4 + (2 + 0)) (by decide))))
    (congrArg₂ (· + ·) (congrArg₂ (· + ·) (hg (1 + 0) (by decide)) (hg (4 + (1 + 0)) (by decide)))
      (congrArg₂ (· + ·) (hg (2 + (1 + 0)) (by decide)) (hg (4 + (2 + (1 + 0))) (by decide))))) ?_
  norm_num only
  ac_rfl

theorem row_mean (x : FVec Ideal S2048x128 .f32) (r : Fin 2048) :
    Key.mean (F := Ideal) x (ix2 r (0 : Fin 1)) = Spec.mean (row (m := 2048) (n := 128) x r) := by
  show Key.total (F := Ideal) x (ix2 r (0 : Fin 1)) * Ideal.ofBits .f32 0x3C000000#32 = _
  rw [row_total]
  rfl

/-- One column broadcast over the lanes. -/
theorem spread (x : FVec Ideal S2048x1 .f32) (r : Fin 2048) (j : Fin 128) :
    broadcastTo S2048x128 x broadcasts_S2048x1_S2048x128 (ix2 r j) = x (ix2 r (0 : Fin 1)) := by
  refine broadcastTo_apply _ broadcasts_S2048x1_S2048x128 (ix2 r j) (ix2 r (0 : Fin 1)) fun a => ?_
  fin_cases a
  · rfl
  · rfl

theorem mean_congr {f g : ℕ → EReal} (h : ∀ j < 128, f j = g j) : Spec.mean f = Spec.mean g := by
  unfold Spec.mean
  rw [Finset.sum_congr rfl fun k hk => h k (Finset.mem_range.1 hk)]

theorem row_centred (x : FVec Ideal S2048x128 .f32) (r : Fin 2048) (j : Nat) (hj : j < 128) :
    row (m := 2048) (n := 128) (Key.centred (F := Ideal) x) r j
      = row (m := 2048) (n := 128) x r j - Spec.mean (row (m := 2048) (n := 128) x r) := by
  rw [row_lt _ _ _ hj, row_lt _ _ _ hj]
  show x (ix2 r ⟨j, hj⟩) - broadcastTo S2048x128 _ _ (ix2 r ⟨j, hj⟩) = _
  rw [spread, row_mean]

theorem row_normed (x : FVec Ideal S2048x128 .f32) (g b : FVec Ideal S1x128 .f32) (r : Fin 2048) (j : Nat) (hj : j < 128) :
    row (m := 2048) (n := 128) (Key.normed (F := Ideal) x g b) r j
      = Spec.norm (row (m := 1) (n := 128) g 0) (row (m := 1) (n := 128) b 0) (row (m := 2048) (n := 128) x r) j := by
  rw [row_lt _ _ _ hj]
  show Ideal.div (Key.centred (F := Ideal) x (ix2 r ⟨j, hj⟩)) (broadcastTo S2048x128 _ _ (ix2 r ⟨j, hj⟩))
    * broadcastTo S2048x128 _ _ (ix2 r ⟨j, hj⟩) + broadcastTo S2048x128 _ _ (ix2 r ⟨j, hj⟩) = _
  rw [spread, cast_self, cast_self]
  have e1 := broadcastTo_1b_ab_apply g broadcasts_S1x128_S2048x128 r ⟨j, hj⟩
  have e2 := broadcastTo_1b_ab_apply b broadcasts_S1x128_S2048x128 r ⟨j, hj⟩
  refine congrArg₂ (· + ·) (congrArg₂ (· * ·) ?_ (e1.trans (at_row g 0 ⟨j, hj⟩))) (e2.trans (at_row b 0 ⟨j, hj⟩))
  refine congrArg₂ Ideal.div ?_ ?_
  · exact (at_row _ r ⟨j, hj⟩).trans (row_centred x r j hj)
  · show Ideal.sqrt (Key.mean (F := Ideal) _ (ix2 r (0 : Fin 1)) + Ideal.ofBits .f32 0x3727C5AC#32) = _
    rw [row_mean]
    refine congrArg (fun a => Ideal.sqrt (a + _)) (mean_congr fun k hk => ?_)
    rw [row_lt _ _ _ hk]
    show Key.centred (F := Ideal) x (ix2 r ⟨k, hk⟩) * Key.centred (F := Ideal) x (ix2 r ⟨k, hk⟩) = _
    rw [← row_lt (m := 2048) (n := 128) (Key.centred (F := Ideal) x) r k hk, row_centred x r k hk]

/-- The keys, row by row. -/
theorem row_key (hid : FVec Ideal S2048x2048 .f32) (wk : FVec Ideal S2048x128 .f32) (g b : FVec Ideal S1x128 .f32)
    (c s : FVec Ideal S2048x64 .f32) (r : Fin 2048) (j : Nat) (hj : j < 128) :
    row (m := 2048) (n := 128) (Key.key (F := Ideal) hid wk g b c s) r j
      = Spec.turn (row (m := 2048) (n := 64) c r) (row (m := 2048) (n := 64) s r)
          (Spec.norm (row (m := 1) (n := 128) g 0) (row (m := 1) (n := 128) b 0)
            (row (m := 2048) (n := 128) (Key.proj (F := Ideal) hid wk) r)) j := by
  rw [row_lt _ _ _ hj]
  show hadAll (F := Ideal) 2048 128 _ _ _ _ 7 _ (ix2 r ⟨j, hj⟩) * Ideal.ofBits .f32 0x3DB504F3#32 = _
  rw [← row_lt (hadAll (F := Ideal) 2048 128 _ _ _ _ 7 _) r j hj]
  refine congrArg (· * _) ?_
  refine (row_hadAll 2048 1 (by decide) _ _ _ _ r 7 _ j hj).trans ?_
  refine Spec.hadN_congr (m := 1) (fun i hi => ?_) 7 (by decide) j hj
  refine (row_ropeM 2048 1 (by decide) _ _ _ _ _ _ r _ _ (fun i hi => key_tiled c r i hi) (fun i hi => key_tiled s r i hi) i hi).trans ?_
  exact Spec.rope_congr (m := 1) _ _ (fun i hi => row_normed _ g b r i hi) i hi

/-- The scaled head weights, read at an index. -/
theorem weight_at (w : FVec Ideal S2048x16 .f32) (hid : FVec Ideal S2048x2048 .f32) (r : Fin 2048) (h : Fin 16) :
    Key.weight (F := Ideal) w hid (ix2 r h) = (∑ i : Fin 2048, w (ix2 i h) * hid (ix2 r i)) * Ideal.ofBits .f32 0x3CB504F3#32 := by
  unfold Key.weight
  rw [cast_self]
  refine (transpose_ix2_apply _ _ r h).trans ?_
  show matmul (F := Ideal) _ none w hid _ (ix2 h r) * Ideal.ofBits .f32 0x3CB504F3#32 = _
  exact congrArg (· * _) (dot01 16 2048 2048 _ none w hid h r)

end Cert.Read
-- ==== Proof.NetModel.lean ====
/- The top-k call's exchange network, one stage a function of the stage's two bits. -/
module

public import proofs.«01_k».proof.Proof.Lanes
public import proofs.«01_k».proof.Proof.Gen.KernelIdeal.Frame

@[expose] public section

set_option maxRecDepth 16384

noncomputable section

namespace Cert.Net
open Idealize.ShloMosaic Idealize.ShloMosaic.ValueIdx Cert.KernelIdeal Cert.KernelIdeal.Gen Cert.Lanes

variable {F : FTy → Type} [FloatOps F] {α : Type}

/-- The lane number of every entry. -/
def lane : IVec S8x2048 32 := iota .tc S8x2048 32 [1] iota_S8x2048_d1_w32

/-- Whether the lane number has a bit of `w`. -/
def bitM (w : BitVec 32) : IVec S8x2048 1 :=
  cmpi .ne (andi lane (broadcast S8x2048 w)) (broadcast S8x2048 0#32)

/-- One stage: the distance `a` with its complement `b`, and the words of the distance and of the run length. -/
structure Stg where
  a : Nat
  b : Nat
  h : a + b = 2048
  ws : BitVec 32
  wl : BitVec 32

/-- The entry across the exchange. -/
def across (s : Stg) (x : S8x2048.Idx → α) : S8x2048.Idx → α :=
  select (bitM s.ws) (rot 8 2048 s.a s.b s.h x) (rot 8 2048 s.b s.a (by have := s.h; omega) x)

/-- Whether an entry is replaced by the one across. -/
def takeM (s : Stg) (v : FVec F S8x2048 .f32) (i : IVec S8x2048 32) : IVec S8x2048 1 :=
  xori (xori (ori (cmpf .ogt v (across s v)) (andi (cmpf .oeq v (across s v)) (cmpi .slt i (across s i))))
    (xori (bitM s.ws) (constantI S8x2048 1 1#1))) (bitM s.wl)

/-- The values after one stage. -/
def stepV (s : Stg) (v : FVec F S8x2048 .f32) (i : IVec S8x2048 32) : FVec F S8x2048 .f32 :=
  select (takeM s v i) (across s v) v

/-- The indices after one stage. -/
def stepI (s : Stg) (v : FVec F S8x2048 .f32) (i : IVec S8x2048 32) : IVec S8x2048 32 :=
  select (takeM s v i) (across s i) i

/-- The values after a list of stages. -/
def netV : List Stg → FVec F S8x2048 .f32 → IVec S8x2048 32 → FVec F S8x2048 .f32
  | [], v, _ => v
  | s :: l, v, i => netV l (stepV s v i) (stepI s v i)

/-- The indices after a list of stages. -/
def netI : List Stg → FVec F S8x2048 .f32 → IVec S8x2048 32 → IVec S8x2048 32
  | [], _, i => i
  | s :: l, v, i => netI l (stepV s v i) (stepI s v i)

/-- The stage of distance `2^s` in runs of length `2^(l+1)`. -/
def stg (l s : Nat) (h : 2 ^ s ≤ 2048) : Stg :=
  ⟨2 ^ s, 2048 - 2 ^ s, by omega, BitVec.ofNat 32 (2 ^ s), BitVec.ofNat 32 (2 ^ (l + 1))⟩

/-- The stages of run length `2^(l+1)`, from distance `2^s` down to 1. -/
def level (l : Nat) : (s : Nat) → 2 ^ s ≤ 2048 → List Stg
  | 0, h => [stg l 0 h]
  | s + 1, h => stg l (s + 1) h :: level l s (by rw [Nat.pow_succ] at h; omega)

/-- The whole network's stages. -/
def stages : (l : Nat) → 2 ^ l ≤ 2048 → List Stg
  | 0, h => level 0 0 h
  | l + 1, h => stages l (by rw [Nat.pow_succ] at h; omega) ++ level (l + 1) (l + 1) h

/-- What the call's one load reads. -/
def base (c : Dev nD) (arg1 : Memref sig .tc .vmem S8x2048 .f32) (harg1 : arg1.IsWhole) (x0 : Vec F S8x2048 .f32) :
    Vec F S8x2048 .f32 :=
  View.readAt (Elt F) arg1.view (Rect.unit ![0, 0] S8x2048.size inb_S8x2048_S8x2048_0_0).toLoadRect (harg1.unread x0)

theorem base_eq (c : Dev nD) (arg1 : Memref sig .tc .vmem S8x2048 .f32) (harg1 : arg1.IsWhole) (x0 : Vec F S8x2048 .f32) :
    base c arg1 harg1 x0 = x0 := by
  have hz : (![0, 0] : Fin 2 → Nat) = fun _ => 0 := by funext a; fin_cases a <;> rfl
  unfold base
  simp only [View.readAt_eq_ld, harg1.read_unread, View.ld_unit_zero (S := S8x2048) hz]

theorem shapeCast_self {s : Shape} {α : Type} (x : s.Idx → α) (h : s.ShapeCasts s) : shapeCast s x h = x := by
  funext j
  exact shapeCast_apply x h j j rfl

theorem vals_eq (c : Dev nD) (arg1 : Memref sig .tc .vmem S8x2048 .f32) (harg1 : arg1.IsWhole) (x0 : Vec F S8x2048 .f32) :
    k2_pay470 kernelRun2_A.sl.v2 (kernelRun2_A.sl.r_145 c arg1 harg1 x0) (kernelRun2_A.sl.r_146 c arg1 harg1 x0)
          (k2_pay459 kernelRun2_A.sl.v2) (k2_pay460 kernelRun2_A.sl.v2) (kernelRun2_A.sl.r_147 c arg1 harg1 x0)
          (kernelRun2_A.sl.r_148 c arg1 harg1 x0)
      = extractStridedSlice S8x1024 ![0, 0] (netV (stages 10 (by decide))
          (shapeCast S8x2048 (base c arg1 harg1 x0) shapeCasts_S8x2048_S8x2048) lane) slices_S8x2048_o0_0_S8x1024 := by
  sl_kernel_rfl

theorem idxs_eq (c : Dev nD) (arg1 : Memref sig .tc .vmem S8x2048 .f32) (harg1 : arg1.IsWhole) (x0 : Vec F S8x2048 .f32) :
    kernelRun2_A.sl.r_149 c arg1 harg1 x0
      = extractStridedSlice S8x1024 ![0, 0] (netI (stages 10 (by decide))
          (shapeCast S8x2048 (base c arg1 harg1 x0) shapeCasts_S8x2048_S8x2048) lane) slices_S8x2048_o0_0_S8x1024 := by
  sl_kernel_rfl

/-- What is stored through the block without its leading coordinate is read at the block. -/
theorem lead_canon {e : EltTy} (h h0 hs h1 hR) (w : S8x1024.Idx → Elt F e) (r : Fin 8) (j : Fin 1024) :
    View.canon (Val := Elt F) (s := S1x8x1024) (e := e)
      [⟨(Rect.unit (s := S1x8x1024) ![0, 0, 0] ![1, 8, 1024] h).within
          ((Rect.unit (s := S8x1024) ![0, 0] ![8, 1024] inb_S8x1024_S8x1024_0_0).consLift ![1, 8, 1024] h0 hs :
            Rect (Shape.mk 3 ![1, 8, 1024])) h1,
        Rect.payAlong (r := Rect.unit (s := S8x1024) ![0, 0] ![8, 1024] inb_S8x1024_S8x1024_0_0) hR w⟩] (ix3 0 r j) = w (ix2 r j) := by
  refine Eq.trans (congrArg _ ?_) ((View.canon_cons_within_emb (Rect.unit (s := S1x8x1024) ![0, 0, 0] ![1, 8, 1024] h)
    ((Rect.unit (s := S8x1024) ![0, 0] ![8, 1024] inb_S8x1024_S8x1024_0_0).consLift ![1, 8, 1024] h0 hs) h1 _ [] (ix3 0 r j)).trans
    (Rect.payAlong_consLift _ _ h0 hs w hR _ (ix2 r j) fun a => ?_))
  · funext a
    apply Fin.ext
    match a with
    | ⟨0, _⟩ => rfl
    | ⟨1, _⟩ => show r.val = 0 + 1 * (0 + 1 * r.val); omega
    | ⟨2, _⟩ => show j.val = 0 + 1 * (0 + 1 * j.val); omega
  · match a with
    | ⟨0, _⟩ => rfl
    | ⟨1, _⟩ => rfl

theorem out_1 (c : Dev nD) (i : grid2.Coords) (arg1 : Memref sig .tc .vmem S8x2048 .f32) (harg1 : arg1.IsWhole)
    (arg2 : Memref sig .tc .vmem S1x8x1024 .f32) (harg2 : arg2.IsWhole) (arg3 : Memref sig .tc .vmem S1x8x1024 .i32)
    (harg3 : arg3.IsWhole) (x0 : Vec F S8x2048 .f32) (r : Fin 8) (j : Fin 1024) :
    out2_A_1 c i arg1 harg1 arg2 harg2 arg3 harg3 x0 (ix3 0 r j)
      = extractStridedSlice S8x1024 ![0, 0] (netV (stages 10 (by decide)) x0 lane) slices_S8x2048_o0_0_S8x1024 (ix2 r j) := by
  unfold out2_A_1
  rw [View.read_writes_eq_canon _ _ _ (cover2_A_1 c i arg1 harg1 arg2 harg2 arg3 harg3 x0)]
  unfold kernelRun2_A
  dsimp only
  rw [vals_eq, base_eq, shapeCast_self]
  exact lead_canon _ _ _ _ _ _ r j

theorem out_2 (c : Dev nD) (i : grid2.Coords) (arg1 : Memref sig .tc .vmem S8x2048 .f32) (harg1 : arg1.IsWhole)
    (arg2 : Memref sig .tc .vmem S1x8x1024 .f32) (harg2 : arg2.IsWhole) (arg3 : Memref sig .tc .vmem S1x8x1024 .i32)
    (harg3 : arg3.IsWhole) (x0 : Vec F S8x2048 .f32) (r : Fin 8) (j : Fin 1024) :
    out2_A_2 c i arg1 harg1 arg2 harg2 arg3 harg3 x0 (ix3 0 r j)
      = extractStridedSlice S8x1024 ![0, 0] (netI (stages 10 (by decide)) x0 lane) slices_S8x2048_o0_0_S8x1024 (ix2 r j) := by
  unfold out2_A_2
  rw [View.read_writes_eq_canon _ _ _ (cover2_A_2 c i arg1 harg1 arg2 harg2 arg3 harg3 x0)]
  unfold kernelRun2_A
  dsimp only
  rw [idxs_eq, base_eq, shapeCast_self]
  exact lead_canon _ _ _ _ _ _ r j

end Cert.Net
-- ==== Proof.Stable.lean ====
/- A stable sort by a value that may repeat is the descending arrangement of the pairs (value, lower position first). -/
module

public import Idealize.ShloMosaic.Lib.SortFacts
public import Idealize.ShloMosaic.PureOps.Ideal.Laws
public import Mathlib.Data.Prod.Lex
public import Mathlib.Data.List.FinRange
public import Mathlib.Data.List.Sort

@[expose] public section

noncomputable section

namespace Cert.Stable
open Idealize.ShloMosaic

/-- A value with its position, ordered by the value and, for equal values, the lower position greater. -/
abbrev Pair := EReal ×ₗ ℕᵒᵈ

/-- The pair of a value and a position. -/
def pair (a : EReal) (k : ℕ) : Pair := toLex (a, OrderDual.toDual k)

theorem pair_lt {a b : EReal} {k l : ℕ} : pair a k < pair b l ↔ a < b ∨ (a = b ∧ l < k) := by
  unfold pair
  rw [Prod.Lex.toLex_lt_toLex]
  simp only [OrderDual.toDual_lt_toDual]

theorem pair_inj {a b : EReal} {k l : ℕ} (h : pair a k = pair b l) : a = b ∧ k = l := by
  have h' : (a, OrderDual.toDual k) = (b, OrderDual.toDual l) := toLex.injective h
  exact ⟨(Prod.mk.inj h').1, OrderDual.toDual.injective (Prod.mk.inj h').2⟩

variable {ι : Type} (x : ι → EReal) (p : ι → ℕ)

/-- Inserting an entry of lower position than all of a descending list keeps it descending. -/
theorem insert_desc (a : ι) (l : List ι) (ha : ∀ b ∈ l, p a < p b)
    (hl : l.Pairwise fun b c => pair (x c) (p c) < pair (x b) (p b)) :
    (insertBefore (fun b c => decide (x c < x b)) a l).Pairwise fun b c => pair (x c) (p c) < pair (x b) (p b) := by
  induction l with
  | nil => simp [insertBefore]
  | cons b l ih =>
    obtain ⟨hb, hl'⟩ := List.pairwise_cons.mp hl
    have ihl := ih (fun y hy => ha y (List.mem_cons_of_mem _ hy)) hl'
    unfold insertBefore
    by_cases hab : x a < x b
    · rw [if_pos (by simpa using hab)]
      refine List.pairwise_cons.mpr ⟨fun y hy => ?_, ihl⟩
      rcases List.mem_cons.mp ((perm_insertBefore _ a l).mem_iff.mp hy) with rfl | hy
      · exact pair_lt.mpr (Or.inl hab)
      · exact hb y hy
    · rw [if_neg (by simpa using hab)]
      have hba : pair (x b) (p b) < pair (x a) (p a) := by
        rcases lt_or_eq_of_le (not_lt.mp hab) with h | h
        · exact pair_lt.mpr (Or.inl h)
        · exact pair_lt.mpr (Or.inr ⟨h, ha b List.mem_cons_self⟩)
      refine List.pairwise_cons.mpr ⟨fun y hy => ?_, hl⟩
      rcases List.mem_cons.mp hy with rfl | hy
      · exact hba
      · exact (hb y hy).trans hba

theorem sort_desc (l : List ι) (hl : l.Pairwise fun a b => p a < p b) :
    (stableSort (fun b c => decide (x c < x b)) l).Pairwise fun b c => pair (x c) (p c) < pair (x b) (p b) := by
  induction l with
  | nil => simp [stableSort]
  | cons a l ih =>
    obtain ⟨ha, hl'⟩ := List.pairwise_cons.mp hl
    unfold stableSort
    exact insert_desc x p a _ (fun b hb => ha b ((perm_stableSort _ l).mem_iff.mp hb)) (ih hl')

/-- The pairs of a vector's entries with their positions. -/
def pairs {n : ℕ} (x : Fin n → EReal) (k : Fin n) : Pair := pair (x k) k.val

theorem sortedFrom_desc {n : ℕ} (x : Fin n → EReal) :
    Antitone (pairs x ∘ sortedFrom fun k k' => decide (x k' < x k)) := by
  have h := List.pairwise_iff_get.mp
    (sort_desc x (fun k : Fin n => k.val) (List.finRange n) (List.pairwise_lt_finRange n))
  intro i j hij
  rcases lt_or_eq_of_le hij with hlt | rfl
  · exact le_of_lt (h (i.cast (length_sortPositions n _).symm) (j.cast (length_sortPositions n _).symm) hlt)
  · exact le_refl _

/-- A descending arrangement of the pairs is the one the stable sort gives. -/
theorem desc_unique {n : ℕ} (x : Fin n → EReal) (w : Fin n → Pair) (hw : Antitone w)
    (hσ : ∃ σ : Equiv.Perm (Fin n), w = pairs x ∘ σ) :
    w = pairs x ∘ sortedFrom fun k k' => decide (x k' < x k) := by
  obtain ⟨σ, rfl⟩ := hσ
  let τ : Equiv.Perm (Fin n) := Equiv.ofBijective _
    ⟨sortedFrom_injective (fun k k' : Fin n => decide (x k' < x k)), sortedFrom_surjective _⟩
  have hp : (List.ofFn (pairs x ∘ σ)).Perm (List.ofFn (pairs x ∘ τ)) :=
    (Equiv.Perm.ofFn_comp_perm σ (pairs x)).trans (Equiv.Perm.ofFn_comp_perm τ (pairs x)).symm
  have hs : ∀ f : Fin n → Pair, Antitone f → (List.ofFn f).Pairwise (fun a b => b ≤ a) := fun f hf =>
    List.pairwise_ofFn.mpr fun i j hij => hf (le_of_lt hij)
  have : Std.Antisymm (fun a b : Pair => b ≤ a) := ⟨fun a b h h' => le_antisymm h' h⟩
  exact List.ofFn_injective (hp.eq_of_pairwise' (hs _ hw) (hs _ (sortedFrom_desc x)))

end Cert.Stable
-- ==== Proof.NetRow.lean ====
/- The top-k call's network on one row: Batcher's bitonic sort of the pairs (value, lower index first). -/
module

public import proofs.«01_k».proof.Proof.NetModel
public import proofs.«01_k».proof.Proof.Stable
public import Idealize.ShloMosaic.Lib.SortNet.Sorts

@[expose] public section

set_option maxRecDepth 16384

noncomputable section

namespace Cert.Net
open Idealize.ShloMosaic Idealize.ShloMosaic.ValueIdx Idealize.ShloMosaic.SortNet
open Cert.KernelIdeal Cert.KernelIdeal.Gen Cert.Lanes Cert.Stable

/-! ## The lane number and its bits -/

theorem lane_at (r : Fin 8) (j : Fin 2048) : lane (ix2 r j) = BitVec.ofNat 32 j.val := by
  show BitVec.ofNat 32 (0 * 2048 + j.val) = _
  rw [Nat.zero_mul, Nat.zero_add]

theorem word_bit (j s : Nat) (hj : j < 2048) :
    (BitVec.ofNat 32 j &&& BitVec.ofNat 32 (2 ^ s) != 0#32) = decide (j &&& 2 ^ s ≠ 0) := by
  have hle : j &&& 2 ^ s ≤ j := Nat.and_le_left
  have e : (BitVec.ofNat 32 j &&& BitVec.ofNat 32 (2 ^ s)).toNat = j &&& 2 ^ s := by
    rw [BitVec.toNat_and, BitVec.toNat_ofNat, BitVec.toNat_ofNat, ← Nat.and_mod_two_pow]
    exact Nat.mod_eq_of_lt (by omega)
  have h : BitVec.ofNat 32 j &&& BitVec.ofNat 32 (2 ^ s) = 0#32 ↔ j &&& 2 ^ s = 0 := by
    rw [← BitVec.toNat_inj, e]; rfl
  rw [Bool.eq_iff_iff, bne_iff_ne, decide_eq_true_iff]
  exact not_congr h

theorem bitM_at (s : Nat) (r : Fin 8) (j : Fin 2048) :
    bitM (BitVec.ofNat 32 (2 ^ s)) (ix2 r j) = BitVec.ofBool (decide (j.val &&& 2 ^ s ≠ 0)) := by
  show BitVec.ofBool (lane (ix2 r j) &&& BitVec.ofNat 32 (2 ^ s) != 0#32) = _
  rw [lane_at, word_bit j.val s j.isLt]

theorem select_ofBool {s : Shape} {α : Type} (m : IVec s 1) (x y : s.Idx → α) (i : s.Idx) (b : Bool)
    (h : m i = BitVec.ofBool b) : select m x y i = if b then x i else y i := by
  show (if m i = 1 then x i else y i) = _
  rw [h]; cases b <;> rfl

theorem across_at {α : Type} (l s : Nat) (hs : s < 11) (h : 2 ^ s ≤ 2048) (x : S8x2048.Idx → α) (r : Fin 8)
    (j : Fin 2048) : across (stg l s h) x (ix2 r j) = x (ix2 r (partner 11 s j)) := by
  refine (select_ofBool _ _ _ _ _ (bitM_at s r j)).trans ?_
  by_cases hj : j.val &&& 2 ^ s = 0
  · rw [if_neg (by simpa using hj)]
    have hp := partner_val_of_clear hs j hj
    have hlt : (partner 11 s j).val < 2048 := (partner 11 s j).isLt
    refine rot_at 8 2048 _ _ _ x r j (partner 11 s j) ?_
    show (partner 11 s j).val = if j.val < 2048 - 2 ^ s then j.val + 2 ^ s else j.val - (2048 - 2 ^ s)
    rw [hp] at hlt ⊢
    rw [if_pos (by omega)]
  · rw [if_pos (by simpa using hj)]
    have hp := partner_val_of_set hs j hj
    refine rot_at 8 2048 _ _ _ x r j (partner 11 s j) ?_
    show (partner 11 s j).val = if j.val < 2 ^ s then j.val + (2048 - 2 ^ s) else j.val - 2 ^ s
    rw [if_neg (by omega)]
    exact hp.2

/-! ## One stage -/

/-- The pairs of a row. -/
def key (r : Fin 8) (v : FVec Ideal S8x2048 .f32) (i : IVec S8x2048 32) (j : Fin 2048) : Pair :=
  pair (v (ix2 r j)) (i (ix2 r j)).toNat

/-- The indices are small, so that comparing them as signed words is comparing the numbers. -/
def Small (r : Fin 8) (i : IVec S8x2048 32) : Prop := ∀ j : Fin 2048, (i (ix2 r j)).toNat < 2048

theorem slt_small (a b : BitVec 32) (ha : a.toNat < 2048) (hb : b.toNat < 2048) :
    a.slt b = decide (a.toNat < b.toNat) := by
  rw [BitVec.slt_eq_decide, BitVec.toInt_eq_toNat_of_lt (by omega), BitVec.toInt_eq_toNat_of_lt (by omega)]
  simp

/-- Whether the position's own pair stays: its distance bit clear exactly where its run ascends. -/
def keep (l s : Nat) (j : Fin (2 ^ 11)) : Bool :=
  (decide (j.val &&& 2 ^ s = 0)) ^^ (decide (j.val &&& 2 ^ (l + 1) ≠ 0))

theorem takeM_at (l s : Nat) (hs : s < 11) (h : 2 ^ s ≤ 2048) (r : Fin 8) (v : FVec Ideal S8x2048 .f32)
    (i : IVec S8x2048 32) (hi : Small r i) (j : Fin 2048) :
    takeM (stg l s h) v i (ix2 r j)
      = BitVec.ofBool (decide (key r v i (partner 11 s j) < key r v i j) ^^ keep l s j) := by
  have e : takeM (stg l s h) v i (ix2 r j)
      = ((BitVec.ofBool (decide (across (stg l s h) v (ix2 r j) < v (ix2 r j)))
          ||| (BitVec.ofBool (decide (v (ix2 r j) = across (stg l s h) v (ix2 r j)))
            &&& BitVec.ofBool ((i (ix2 r j)).slt (across (stg l s h) i (ix2 r j)))))
          ^^^ (bitM (BitVec.ofNat 32 (2 ^ s)) (ix2 r j) ^^^ 1#1)) ^^^ bitM (BitVec.ofNat 32 (2 ^ (l + 1))) (ix2 r j) := rfl
  rw [e, across_at l s hs h, across_at l s hs h, bitM_at, bitM_at, slt_small _ _ (hi j) (hi _)]
  unfold keep key
  have hk : decide (pair (v (ix2 r (partner 11 s j))) (i (ix2 r (partner 11 s j))).toNat
        < pair (v (ix2 r j)) (i (ix2 r j)).toNat)
      = (decide (v (ix2 r (partner 11 s j)) < v (ix2 r j))
        || (decide (v (ix2 r j) = v (ix2 r (partner 11 s j)))
          && decide ((i (ix2 r j)).toNat < (i (ix2 r (partner 11 s j))).toNat))) := by
    rw [← Bool.decide_and, ← Bool.decide_or]
    exact decide_eq_decide.mpr (pair_lt.trans (by rw [eq_comm]))
  rw [hk]
  have hn : decide (j.val &&& 2 ^ s ≠ 0) = !decide (j.val &&& 2 ^ s = 0) := by simp
  rw [hn]
  generalize decide (v (ix2 r (partner 11 s j)) < v (ix2 r j)) = b1
  generalize decide (v (ix2 r j) = v (ix2 r (partner 11 s j))) = b2
  generalize decide ((i (ix2 r j)).toNat < (i (ix2 r (partner 11 s j))).toNat) = b3
  generalize decide (j.val &&& 2 ^ s = 0) = b4
  generalize decide (j.val &&& 2 ^ (l + 1) ≠ 0) = b5
  revert b1 b2 b3 b4 b5
  decide

theorem step_at (l s : Nat) (hs : s < 11) (h : 2 ^ s ≤ 2048) (r : Fin 8) (v : FVec Ideal S8x2048 .f32)
    (i : IVec S8x2048 32) (hi : Small r i) (j : Fin 2048) :
    key r (stepV (stg l s h) v i) (stepI (stg l s h) v i) j
      = if decide (key r v i (partner 11 s j) < key r v i j) = keep l s j then key r v i j
        else key r v i (partner 11 s j) := by
  have ht := takeM_at l s hs h r v i hi j
  have e1 := select_ofBool _ (across (stg l s h) v) v _ _ ht
  have e2 := select_ofBool _ (across (stg l s h) i) i _ _ ht
  rw [across_at l s hs h] at e1 e2
  refine (congrArg₂ (fun a (b : BitVec 32) => pair a b.toNat) e1 e2).trans ?_
  by_cases hb : decide (key r v i (partner 11 s j) < key r v i j) = keep l s j
  · rw [if_pos hb, hb, Bool.xor_self]; rfl
  · rw [if_neg hb]
    have : (decide (key r v i (partner 11 s j) < key r v i j) ^^ keep l s j) = true := by
      revert hb
      generalize decide (key r v i (partner 11 s j) < key r v i j) = b
      generalize keep l s j = c
      revert b c; decide
    rw [this]; rfl

theorem step_small (l s : Nat) (hs : s < 11) (h : 2 ^ s ≤ 2048) (r : Fin 8) (v : FVec Ideal S8x2048 .f32)
    (i : IVec S8x2048 32) (hi : Small r i) : Small r (stepI (stg l s h) v i) := by
  intro j
  have e2 := select_ofBool _ (across (stg l s h) i) i _ _ (takeM_at l s hs h r v i hi j)
  rw [across_at l s hs h] at e2
  refine lt_of_eq_of_lt (congrArg BitVec.toNat e2) ?_
  split
  · exact hi _
  · exact hi _

theorem keep_partner (l s : Nat) (hs : s < 11) (hsl : s ≤ l) (j : Fin (2 ^ 11)) :
    keep l s (partner 11 s j) = !keep l s j := by
  have h1 : decide ((partner 11 s j).val &&& 2 ^ s = 0) = !decide (j.val &&& 2 ^ s = 0) := by
    by_cases hj : j.val &&& 2 ^ s = 0
    · rw [partner_and hs j hj]; simp [hj]
    · rw [partner_and_of_set hs j hj]; simp [hj]
  have h2 : (partner 11 s j).val &&& 2 ^ (l + 1) = j.val &&& 2 ^ (l + 1) := by
    rw [partner_val hs, Nat.and_xor_distrib_right]
    have : 2 ^ s &&& 2 ^ (l + 1) = 0 := by
      rw [and_two_pow_eq_zero_iff_testBit, Nat.testBit_two_pow_of_ne (by omega)]
    rw [this, Nat.xor_zero]
  unfold keep
  rw [h1, h2, Bool.not_xor]

/-- The direction Batcher's sort gives a pair. -/
def winner (l : Nat) (i : Fin (2 ^ 11)) : Bool := (decide (i.val &&& 2 ^ (l + 1) = 0)) == true

theorem stage_keep (l s : Nat) : stage 11 s (winner l) = stage 11 s (keep l s) := by
  unfold stage
  refine List.filterMap_congr fun i _ => ?_
  by_cases hi : i.val &&& 2 ^ s = 0
  · have : winner l i = keep l s i := by
      unfold winner keep
      rw [hi]
      by_cases hk : i.val &&& 2 ^ (l + 1) = 0 <;> simp [hk]
    rw [this]
  · rw [if_neg hi, if_neg hi]

theorem key_step (l s : Nat) (hs : s < 11) (hsl : s ≤ l) (h : 2 ^ s ≤ 2048) (r : Fin 8) (v : FVec Ideal S8x2048 .f32)
    (i : IVec S8x2048 32) (hi : Small r i) :
    key r (stepV (stg l s h) v i) (stepI (stg l s h) v i) = Network.apply (stage 11 s (winner l)) (key r v i) := by
  funext j
  rw [step_at l s hs h r v i hi j, stage_keep]
  exact (apply_stage_select hs (keep l s) (keep_partner l s hs hsl) (key r v i) j).symm

/-! ## The network -/

theorem netV_append (a b : List Stg) (v : FVec Ideal S8x2048 .f32) (i : IVec S8x2048 32) :
    netV (a ++ b) v i = netV b (netV a v i) (netI a v i) := by
  induction a generalizing v i with
  | nil => rfl
  | cons s l ih => exact ih _ _

theorem netI_append (a b : List Stg) (v : FVec Ideal S8x2048 .f32) (i : IVec S8x2048 32) :
    netI (a ++ b) v i = netI b (netV a v i) (netI a v i) := by
  induction a generalizing v i with
  | nil => rfl
  | cons s l ih => exact ih _ _

theorem level_at (l : Nat) (r : Fin 8) : ∀ (s : Nat) (h : 2 ^ s ≤ 2048) (_ : s < 11) (_ : s ≤ l)
    (v : FVec Ideal S8x2048 .f32) (i : IVec S8x2048 32), Small r i →
    key r (netV (level l s h) v i) (netI (level l s h) v i)
      = Network.apply ((List.range (s + 1)).reverse.flatMap fun s => stage 11 s (winner l)) (key r v i)
    ∧ Small r (netI (level l s h) v i)
  | 0, h, hs, hsl, v, i, hi => by
    refine ⟨?_, step_small l 0 hs h r v i hi⟩
    refine (key_step l 0 hs hsl h r v i hi).trans ?_
    simp
  | s + 1, h, hs, hsl, v, i, hi => by
    have ih := level_at l r s (by rw [Nat.pow_succ] at h; omega) (by omega) (by omega)
      (stepV (stg l (s + 1) h) v i) (stepI (stg l (s + 1) h) v i) (step_small l (s + 1) hs h r v i hi)
    refine ⟨?_, ih.2⟩
    refine ih.1.trans ?_
    rw [key_step l (s + 1) hs hsl h r v i hi, List.range_succ (n := s + 1), List.reverse_append, List.reverse_singleton,
      List.singleton_append, List.flatMap_cons, Network.apply_append]

theorem stages_at (r : Fin 8) : ∀ (l : Nat) (h : 2 ^ l ≤ 2048) (_ : l < 11)
    (v : FVec Ideal S8x2048 .f32) (i : IVec S8x2048 32), Small r i →
    key r (netV (stages l h) v i) (netI (stages l h) v i)
      = Network.apply ((List.range (l + 1)).flatMap fun l =>
          (List.range (l + 1)).reverse.flatMap fun s => stage 11 s (winner l)) (key r v i)
    ∧ Small r (netI (stages l h) v i)
  | 0, h, hl, v, i, hi => by
    have := level_at 0 r 0 h hl (le_refl _) v i hi
    simpa [stages] using this
  | l + 1, h, hl, v, i, hi => by
    have ih := stages_at r l (by rw [Nat.pow_succ] at h; omega) (by omega) v i hi
    have hL := level_at (l + 1) r (l + 1) h hl (le_refl _)
      (netV (stages l (by rw [Nat.pow_succ] at h; omega)) v i) _ ih.2
    unfold stages
    rw [netV_append, netI_append]
    refine ⟨?_, hL.2⟩
    rw [hL.1, ih.1, List.range_succ (n := l + 1), List.flatMap_append, Network.apply_append, List.flatMap_singleton, ← List.range_succ]

/-- THE NETWORK ON A ROW is the stable descending sort, each value with its position. -/
theorem net_row (v : FVec Ideal S8x2048 .f32) (r : Fin 8) (j : Fin 2048) :
    netV (stages 10 (by decide)) v lane (ix2 r j)
        = v (ix2 r (sortedFrom (fun k k' : Fin 2048 => decide (v (ix2 r k') < v (ix2 r k))) j))
    ∧ netI (stages 10 (by decide)) v lane (ix2 r j)
        = BitVec.ofNat 32 (sortedFrom (fun k k' : Fin 2048 => decide (v (ix2 r k') < v (ix2 r k))) j).val := by
  have hsmall : Small r lane := by
    intro j; rw [lane_at, BitVec.toNat_ofNat]
    have := j.isLt; omega
  have hL := stages_at r 10 (by decide) (by decide) v lane hsmall
  have hkey : key r v lane = pairs fun j : Fin 2048 => v (ix2 r j) := by
    funext k
    unfold key pairs
    rw [lane_at, BitVec.toNat_ofNat, Nat.mod_eq_of_lt (by have := k.isLt; omega)]
  have hnet : key r (netV (stages 10 (by decide)) v lane) (netI (stages 10 (by decide)) v lane)
      = Network.apply (sortNet 11 true) (pairs fun j : Fin 2048 => v (ix2 r j)) := by
    rw [← hkey]; exact hL.1
  have hu := desc_unique (fun j : Fin 2048 => v (ix2 r j)) _
    (sortNet_apply_antitone 11 (pairs fun j : Fin 2048 => v (ix2 r j)))
    (Network.exists_perm (sortNet 11 true) (pairs fun j : Fin 2048 => v (ix2 r j)))
  have e := pair_inj (congrFun (hnet.trans hu) j)
  refine ⟨e.1, ?_⟩
  rw [← e.2, BitVec.ofNat_toNat, BitVec.setWidth_eq]

end Cert.Net
-- ==== Proof.Regions.lean ====
/- What the kernel's three calls leave in their result arrays, from what the arrays they read hold. -/
module

public import proofs.«01_k».proof.Proof.KernelRead
public import proofs.«01_k».proof.Proof.NetRow
public import Idealize.ShloMosaic.Lib.Pipeline.Value

@[expose] public section

set_option maxRecDepth 16384

noncomputable section

namespace Cert.Regions
open Idealize.ShloMosaic Idealize.ShloMosaic.TcCoe Idealize.ShloMosaic.ValueIdx Idealize.SL.Sem
open Cert.KernelIdeal Cert.KernelIdeal.Gen Cert.Rows Cert.Lanes

/-! ## The key call: one point, every window its whole array -/

section Key

variable {F : FTy → Type} [FloatOps F]
variable (V : (c : Dev nD) → (b : Ref sig .tc) → Buf (Elt F) ((c : Thread nD τ).loc b)) (c : Dev nD) (t : Fin cfg0.N)

theorem whole_off {n : Nat} (s : Fin n → Nat) : (fun a => 0 * s a) = fun _ => 0 := funext fun a => Nat.zero_mul _

theorem blk0_0 : iblk0 V c 0 t = V c main_v0 :=
  Memref.read_access_unit_zero (Elt F) main_v0 (whole_off _) (fun a => by rw [Nat.zero_mul, Nat.zero_add]) _
theorem blk0_1 : iblk0 V c 1 t = V c main_arg6 :=
  Memref.read_access_unit_zero (Elt F) main_arg6 (whole_off _) (fun a => by rw [Nat.zero_mul, Nat.zero_add]) _
theorem blk0_2 : iblk0 V c 2 t = V c main_v4 :=
  Memref.read_access_unit_zero (Elt F) main_v4 (whole_off _) (fun a => by rw [Nat.zero_mul, Nat.zero_add]) _
theorem blk0_3 : iblk0 V c 3 t = V c main_v5 :=
  Memref.read_access_unit_zero (Elt F) main_v5 (whole_off _) (fun a => by rw [Nat.zero_mul, Nat.zero_add]) _
theorem blk0_4 : iblk0 V c 4 t = V c main_v2 :=
  Memref.read_access_unit_zero (Elt F) main_v2 (whole_off _) (fun a => by rw [Nat.zero_mul, Nat.zero_add]) _
theorem blk0_5 : iblk0 V c 5 t = V c main_v3 :=
  Memref.read_access_unit_zero (Elt F) main_v3 (whole_off _) (fun a => by rw [Nat.zero_mul, Nat.zero_add]) _
theorem blk0_6 : iblk0 V c 6 t = V c main_arg9 :=
  Memref.read_access_unit_zero (Elt F) main_arg9 (whole_off _) (fun a => by rw [Nat.zero_mul, Nat.zero_add]) _

/-- The keys. -/
abbrev keys : FVec F S2048x128 .f32 :=
  Key.key (V c main_v0) (V c main_arg6) (V c main_v4) (V c main_v5) (V c main_v2) (V c main_v3)

/-- The head weights. -/
abbrev weights : FVec F S2048x16 .f32 := Key.weight (V c main_arg9) (V c main_v0)

theorem flushed0_7 : (dat0 V c).flushed 7 t = ((cfg0.win 7).blk t).view.read (Elt F) (keys V c) := by
  show (cfg0.win 7).cut (grid0.coords t) ((dat0 V c).after 7 t) = _
  rw [after0_7, blk0_0, blk0_1, blk0_2, blk0_3, blk0_4, blk0_5, blk0_6, Key.key_eq]
  exact (Memref.read_access_unit_zero (Elt F) main_v6_0 (whole_off _) (fun a => by rw [Nat.zero_mul, Nat.zero_add]) (keys V c)).symm

theorem flushed0_8 : (dat0 V c).flushed 8 t = ((cfg0.win 8).blk t).view.read (Elt F) (weights V c) := by
  show (cfg0.win 8).cut (grid0.coords t) ((dat0 V c).after 8 t) = _
  rw [after0_8, blk0_0, blk0_1, blk0_2, blk0_3, blk0_4, blk0_5, blk0_6, Key.weight_eq]
  exact (Memref.read_access_unit_zero (Elt F) main_v6_1 (whole_off _) (fun a => by rw [Nat.zero_mul, Nat.zero_add]) (weights V c)).symm

theorem final0_7 : (dat0 V c).arrAt 7 cfg0.N = keys V c :=
  (dat0 V c).arrAt_eq_of_cover 7 (keys V c) (fun t _ => flushed0_7 V c t) fun i => by
    obtain ⟨t⟩ : Nonempty (Fin cfg0.N) := ⟨⟨0, by have : cfg0.N = 1 := N_0; omega⟩⟩
    refine ⟨t, flush0_7 t, ?_⟩
    show i ∈ ((View.whole main_v6_0).slice (win0_7.rect t)).set
    rw [View.set_slice_whole, Rect.mem_set_unit]
    intro a
    have h := (i a).isLt
    exact ⟨(Nat.zero_mul _).le.trans (Nat.zero_le _), lt_of_lt_of_le h (Nat.le_add_left _ _)⟩

theorem final0_8 : (dat0 V c).arrAt 8 cfg0.N = weights V c :=
  (dat0 V c).arrAt_eq_of_cover 8 (weights V c) (fun t _ => flushed0_8 V c t) fun i => by
    obtain ⟨t⟩ : Nonempty (Fin cfg0.N) := ⟨⟨0, by have : cfg0.N = 1 := N_0; omega⟩⟩
    refine ⟨t, flush0_8 t, ?_⟩
    show i ∈ ((View.whole main_v6_1).slice (win0_8.rect t)).set
    rw [View.set_slice_whole, Rect.mem_set_unit]
    intro a
    have h := (i a).isLt
    exact ⟨(Nat.zero_mul _).le.trans (Nat.zero_le _), lt_of_lt_of_le h (Nat.le_add_left _ _)⟩

end Key

/-! ## The score call: eight points, 256 rows each -/

section Score

variable (V : (c : Dev nD) → (b : Ref sig .tc) → Buf (Elt Ideal) ((c : Thread nD τ).loc b)) (c : Dev nD)

/-- The array row that row `r` of the block at point `t` is. -/
abbrev at1 (t : Fin cfg1.N) (r : Fin 256) : Fin 2048 :=
  ⟨t.val * 256 + r.val, by have := t.isLt; have := r.isLt; have : cfg1.N = 8 := N_1; omega⟩

theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = t.val ∧ win1_2.index t 1 = 0 :=
  (by decide +kernel : ∀ t : Fin grid1.N, win1_2.index t 0 = t.val ∧ win1_2.index t 1 = 0)
theorem idx1_3 : ∀ t : Fin cfg1.N, win1_3.index t 0 = t.val ∧ win1_3.index t 1 = 0 :=
  (by decide +kernel : ∀ t : Fin grid1.N, win1_3.index t 0 = t.val ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = t.val ∧ win1_5.index t 1 = 0 :=
  (by decide +kernel : ∀ t : Fin grid1.N, win1_5.index t 0 = t.val ∧ win1_5.index t 1 = 0)
theorem idx1_6 : ∀ t : Fin cfg1.N, win1_6.index t 0 = t.val ∧ win1_6.index t 1 = 0 :=
  (by decide +kernel : ∀ t : Fin grid1.N, win1_6.index t 0 = t.val ∧ win1_6.index t 1 = 0)

theorem blk1_0 (t : Fin cfg1.N) (r : Fin 256) (j : Fin 1536) :
    (iblk1 V c 0 t : FVec Ideal S256x1536 .f32) (ix2 r j) = (V c main_v1 : FVec Ideal S2048x1536 .f32) (ix2 (at1 t r) j) := by
  unfold iblk1
  rw [View.read_apply]
  show V c main_v1 _ = V c main_v1 _
  congr 1
  funext a
  apply Fin.ext
  match a with
  | ⟨0, _⟩ => show win1_0.index t 0 * 256 + 1 * r.val = t.val * 256 + r.val; rw [(idx1_0 t).1, Nat.one_mul]
  | ⟨1, _⟩ => show win1_0.index t 1 * 1536 + 1 * j.val = j.val; rw [(idx1_0 t).2, Nat.one_mul, Nat.zero_mul, Nat.zero_add]

theorem blk1_1 (t : Fin cfg1.N) (r : Fin 1536) (j : Fin 2048) :
    (iblk1 V c 1 t : FVec Ideal S1536x2048 .f32) (ix2 r j) = (V c main_arg5 : FVec Ideal S1536x2048 .f32) (ix2 r j) := by
  unfold iblk1
  rw [View.read_apply]
  show V c main_arg5 _ = V c main_arg5 _
  congr 1
  funext a
  apply Fin.ext
  match a with
  | ⟨0, _⟩ => show win1_1.index t 0 * 1536 + 1 * r.val = r.val; rw [(idx1_1 t).1, Nat.one_mul, Nat.zero_mul, Nat.zero_add]
  | ⟨1, _⟩ => show win1_1.index t 1 * 2048 + 1 * j.val = j.val; rw [(idx1_1 t).2, Nat.one_mul, Nat.zero_mul, Nat.zero_add]

theorem blk1_2 (t : Fin cfg1.N) (r : Fin 256) (j : Fin 64) :
    (iblk1 V c 2 t : FVec Ideal S256x64 .f32) (ix2 r j) = (V c main_v2 : FVec Ideal S2048x64 .f32) (ix2 (at1 t r) j) := by
  unfold iblk1
  rw [View.read_apply]
  show V c main_v2 _ = V c main_v2 _
  congr 1
  funext a
  apply Fin.ext
  match a with
  | ⟨0, _⟩ => show win1_2.index t 0 * 256 + 1 * r.val = t.val * 256 + r.val; rw [(idx1_2 t).1, Nat.one_mul]
  | ⟨1, _⟩ => show win1_2.index t 1 * 64 + 1 * j.val = j.val; rw [(idx1_2 t).2, Nat.one_mul, Nat.zero_mul, Nat.zero_add]

theorem blk1_3 (t : Fin cfg1.N) (r : Fin 256) (j : Fin 64) :
    (iblk1 V c 3 t : FVec Ideal S256x64 .f32) (ix2 r j) = (V c main_v3 : FVec Ideal S2048x64 .f32) (ix2 (at1 t r) j) := by
  unfold iblk1
  rw [View.read_apply]
  show V c main_v3 _ = V c main_v3 _
  congr 1
  funext a
  apply Fin.ext
  match a with
  | ⟨0, _⟩ => show win1_3.index t 0 * 256 + 1 * r.val = t.val * 256 + r.val; rw [(idx1_3 t).1, Nat.one_mul]
  | ⟨1, _⟩ => show win1_3.index t 1 * 64 + 1 * j.val = j.val; rw [(idx1_3 t).2, Nat.one_mul, Nat.zero_mul, Nat.zero_add]

theorem blk1_4 (t : Fin cfg1.N) (r : Fin 2048) (j : Fin 128) :
    (iblk1 V c 4 t : FVec Ideal S2048x128 .f32) (ix2 r j) = (V c main_v6_0 : FVec Ideal S2048x128 .f32) (ix2 r j) := by
  unfold iblk1
  rw [View.read_apply]
  show V c main_v6_0 _ = V c main_v6_0 _
  congr 1
  funext a
  apply Fin.ext
  match a with
  | ⟨0, _⟩ => show win1_4.index t 0 * 2048 + 1 * r.val = r.val; rw [(idx1_4 t).1, Nat.one_mul, Nat.zero_mul, Nat.zero_add]
  | ⟨1, _⟩ => show win1_4.index t 1 * 128 + 1 * j.val = j.val; rw [(idx1_4 t).2, Nat.one_mul, Nat.zero_mul, Nat.zero_add]

theorem blk1_5 (t : Fin cfg1.N) (r : Fin 256) (j : Fin 16) :
    (iblk1 V c 5 t : FVec Ideal S256x16 .f32) (ix2 r j) = (V c main_v6_1 : FVec Ideal S2048x16 .f32) (ix2 (at1 t r) j) := by
  unfold iblk1
  rw [View.read_apply]
  show V c main_v6_1 _ = V c main_v6_1 _
  congr 1
  funext a
  apply Fin.ext
  match a with
  | ⟨0, _⟩ => show win1_5.index t 0 * 256 + 1 * r.val = t.val * 256 + r.val; rw [(idx1_5 t).1, Nat.one_mul]
  | ⟨1, _⟩ => show win1_5.index t 1 * 16 + 1 * j.val = j.val; rw [(idx1_5 t).2, Nat.one_mul, Nat.zero_mul, Nat.zero_add]

/-- Rows agree when their entries do. -/
theorem row_eq {m m' n : Nat} (x : FVec Ideal (mat m n) .f32) (y : FVec Ideal (mat m' n) .f32) (r : Fin m) (r' : Fin m')
    (h : ∀ j, x (ix2 r j) = y (ix2 r' j)) : row x r = row y r' := by
  funext j
  unfold row
  by_cases hj : j < n
  · rw [dif_pos hj, dif_pos hj, h]
  · rw [dif_neg hj, dif_neg hj]

/-- The projection of all rows. -/
def project (wq : FVec Ideal S1536x2048 .f32) (xq : FVec Ideal S2048x1536 .f32) : FVec Ideal S2048x2048 .f32 := fun i =>
  ∑ k : Fin 1536, wq (ix2 k (i 1)) * xq (ix2 (i 0) k)

/-- The projected queries. -/
abbrev queries : FVec Ideal S2048x2048 .f32 := project (V c main_arg5) (V c main_v1)

/-- The scores. -/
def scores : FVec Ideal S2048x2048 .f32 := fun i =>
  Spec.score (Spec.turn (row (m := 2048) (n := 64) (V c main_v2) (i 0)) (row (m := 2048) (n := 64) (V c main_v3) (i 0))
      (row (m := 2048) (n := 2048) (queries V c) (i 0)))
    (row (m := 2048) (n := 128) (V c main_v6_0) (i 1)) (row (m := 2048) (n := 16) (V c main_v6_1) (i 0))

theorem block1 (t : Fin cfg1.N) (r : Fin 256) (j : Fin 2048) :
    Score.score (F := Ideal) (iblk1 V c 0 t) (iblk1 V c 1 t) (iblk1 V c 2 t) (iblk1 V c 3 t) (iblk1 V c 4 t) (iblk1 V c 5 t) (ix2 r j)
      = scores V c (ix2 (at1 t r) j) := by
  refine (Read.score_at _ _ _ _ _ _ r j).trans ?_
  have e2 := row_eq (m := 256) (m' := 2048) (n := 64) (iblk1 V c 2 t) (V c main_v2) r (at1 t r) (blk1_2 V c t r)
  have e3 := row_eq (m := 256) (m' := 2048) (n := 64) (iblk1 V c 3 t) (V c main_v3) r (at1 t r) (blk1_3 V c t r)
  have e4 := row_eq (m := 2048) (m' := 2048) (n := 128) (iblk1 V c 4 t) (V c main_v6_0) j j (blk1_4 V c t j)
  have e5 := row_eq (m := 256) (m' := 2048) (n := 16) (iblk1 V c 5 t) (V c main_v6_1) r (at1 t r) (blk1_5 V c t r)
  have e0 : row (m := 256) (n := 2048) (Score.proj (F := Ideal) (iblk1 V c 0 t) (iblk1 V c 1 t)) r
      = row (m := 2048) (n := 2048) (queries V c) (at1 t r) :=
    row_eq _ _ _ _ fun k => (Read.score_proj _ _ r k).trans
      (Finset.sum_congr rfl fun i _ => congrArg₂ (· * ·) (blk1_1 V c t i k) (blk1_0 V c t r i))
  rw [e0, e2, e3, e4, e5]
  rfl

theorem flushed1_6 (t : Fin cfg1.N) : (dat1 V c).flushed 6 t = ((cfg1.win 6).blk t).view.read (Elt Ideal) (scores V c) := by
  show (cfg1.win 6).cut (grid1.coords t) ((dat1 V c).after 6 t) = _
  rw [after1_6, Score.out_eq]
  funext i
  rw [View.read_apply]
  have e := block1 V c t (i 0) (i 1)
  refine Eq.trans ?_ (e.trans ?_)
  · show Score.score (F := Ideal) _ _ _ _ _ _ _ = _
    congr 1
    funext a
    match a with
    | ⟨0, _⟩ => rfl
    | ⟨1, _⟩ => rfl
  · show scores V c _ = scores V c _
    congr 1
    funext a
    apply Fin.ext
    match a with
    | ⟨0, _⟩ => show t.val * 256 + (i 0).val = win1_6.index t 0 * 256 + 1 * (i 0).val; rw [(idx1_6 t).1, Nat.one_mul]
    | ⟨1, _⟩ => show (i 1).val = win1_6.index t 1 * 2048 + 1 * (i 1).val; rw [(idx1_6 t).2, Nat.one_mul, Nat.zero_mul, Nat.zero_add]

theorem final1_6 : (dat1 V c).arrAt 6 cfg1.N = scores V c :=
  (dat1 V c).arrAt_eq_of_cover 6 (scores V c) (fun t _ => flushed1_6 V c t) fun i => by
    have h0 : (i 0 : Nat) < 2048 := (i 0).isLt
    have h1 : (i 1 : Nat) < 2048 := (i 1).isLt
    have hN : cfg1.N = 8 := N_1
    obtain ⟨t, ht⟩ : ∃ t : Fin cfg1.N, t.val = (i 0 : Nat) / 256 := ⟨⟨(i 0 : Nat) / 256, by rw [hN]; omega⟩, rfl⟩
    refine ⟨t, flush1_6 t, ?_⟩
    show i ∈ ((View.whole main_v7).slice (win1_6.rect t)).set
    rw [View.set_slice_whole, Rect.mem_set_unit]
    have e := idx1_6 t
    intro a
    match a with
    | ⟨0, _⟩ =>
      show win1_6.index t 0 * 256 ≤ (i 0 : Nat) ∧ (i 0 : Nat) < win1_6.index t 0 * 256 + 256
      rw [e.1, ht]; omega
    | ⟨1, _⟩ =>
      show win1_6.index t 1 * 2048 ≤ (i 1 : Nat) ∧ (i 1 : Nat) < win1_6.index t 1 * 2048 + 2048
      rw [e.2]; omega

end Score

/-! ## The selection call: 256 points, eight rows each -/

section Top

variable (V : (c : Dev nD) → (b : Ref sig .tc) → Buf (Elt Ideal) ((c : Thread nD τ).loc b)) (c : Dev nD)

/-- The order in which a row is taken. -/
def rank (f : Fin 2048 → EReal) (j : Fin 2048) : Fin 2048 := sortedFrom (fun k k' => decide (f k' < f k)) j

/-- The array row that row `r` of the block at point `t` is. -/
abbrev at2 (t : Fin cfg2.N) (r : Fin 8) : Fin 2048 :=
  ⟨t.val * 8 + r.val, by have := t.isLt; have := r.isLt; have : cfg2.N = 256 := N_2; omega⟩

abbrev low (j : Fin 1024) : Fin 2048 := ⟨j.val, by have := j.isLt; omega⟩

theorem idx2_0 : ∀ t : Fin cfg2.N, win2_0.index t 0 = t.val ∧ win2_0.index t 1 = 0 :=
  (by decide +kernel : ∀ t : Fin grid2.N, win2_0.index t 0 = t.val ∧ win2_0.index t 1 = 0)
theorem idx2_1 : ∀ t : Fin cfg2.N, win2_1.index t 0 = 0 ∧ win2_1.index t 1 = t.val ∧ win2_1.index t 2 = 0 :=
  (by decide +kernel : ∀ t : Fin grid2.N, win2_1.index t 0 = 0 ∧ win2_1.index t 1 = t.val ∧ win2_1.index t 2 = 0)
theorem idx2_2 : ∀ t : Fin cfg2.N, win2_2.index t 0 = 0 ∧ win2_2.index t 1 = t.val ∧ win2_2.index t 2 = 0 :=
  (by decide +kernel : ∀ t : Fin grid2.N, win2_2.index t 0 = 0 ∧ win2_2.index t 1 = t.val ∧ win2_2.index t 2 = 0)

theorem blk2_0 (t : Fin cfg2.N) (r : Fin 8) (j : Fin 2048) :
    (iblk2 V c 0 t : FVec Ideal S8x2048 .f32) (ix2 r j) = (V c main_v7 : FVec Ideal S2048x2048 .f32) (ix2 (at2 t r) j) := by
  unfold iblk2
  rw [View.read_apply]
  show V c main_v7 _ = V c main_v7 _
  congr 1
  funext a
  apply Fin.ext
  match a with
  | ⟨0, _⟩ => show win2_0.index t 0 * 8 + 1 * r.val = t.val * 8 + r.val; rw [(idx2_0 t).1, Nat.one_mul]
  | ⟨1, _⟩ => show win2_0.index t 1 * 2048 + 1 * j.val = j.val; rw [(idx2_0 t).2, Nat.one_mul, Nat.zero_mul, Nat.zero_add]

/-- The first 1024 of every row, under a leading axis, -/
def firsts (x : FVec Ideal S2048x2048 .f32) : FVec Ideal S1x2048x1024 .f32 :=
  fun i => x (ix2 (i 1) (rank (fun k => x (ix2 (i 1) k)) (low (i 2))))

/-- and their places. -/
def spots (x : FVec Ideal S2048x2048 .f32) : IVec S1x2048x1024 32 :=
  fun i => BitVec.ofNat 32 (rank (fun k => x (ix2 (i 1) k)) (low (i 2))).val

abbrev tops : FVec Ideal S1x2048x1024 .f32 := firsts (V c main_v7)
abbrev places : IVec S1x2048x1024 32 := spots (V c main_v7)

/-- The network on a block is the selection of the rows the block is cut from. -/
theorem net_block (x : FVec Ideal S2048x2048 .f32) (b : FVec Ideal S8x2048 .f32) (r : Fin 8) (R : Fin 2048)
    (h : ∀ j, b (ix2 r j) = x (ix2 R j)) (j : Fin 1024) :
    Net.netV (F := Ideal) (Net.stages 10 (by decide)) b Net.lane (ix2 r (low j)) = firsts x (ix3 (0 : Fin 1) R j)
    ∧ Net.netI (F := Ideal) (Net.stages 10 (by decide)) b Net.lane (ix2 r (low j)) = spots x (ix3 (0 : Fin 1) R j) := by
  have e : (fun k k' : Fin 2048 => decide (b (ix2 r k') < b (ix2 r k))) = fun k k' => decide (x (ix2 R k') < x (ix2 R k)) := by
    funext k k'
    rw [h, h]
  have g := Net.net_row b r (low j)
  rw [e] at g
  exact ⟨g.1.trans (h _), g.2⟩

theorem slice2 {α : Type} (y : S8x2048.Idx → α) (r : Fin 8) (j : Fin 1024) :
    extractStridedSlice S8x1024 ![0, 0] y slices_S8x2048_o0_0_S8x1024 (ix2 r j) = y (ix2 r (low j)) := by
  refine extractStridedSlice_apply _ y _ _ _ fun a => ?_
  match a with
  | ⟨0, _⟩ => exact (Nat.zero_add _).symm
  | ⟨1, _⟩ => exact (Nat.zero_add _).symm

theorem block2 (t : Fin cfg2.N) (r : Fin 8) (j : Fin 1024) :
    ((outsAt2 V c t).1 : FVec Ideal S1x8x1024 .f32) (ix3 (0 : Fin 1) r j) = tops V c (ix3 (0 : Fin 1) (at2 t r) j)
    ∧ ((outsAt2 V c t).2 : IVec S1x8x1024 32) (ix3 (0 : Fin 1) r j) = places V c (ix3 (0 : Fin 1) (at2 t r) j) := by
  have g := net_block (V c main_v7) (iblk2 V c 0 t) r (at2 t r) (blk2_0 V c t r) j
  unfold outsAt2
  dsimp only
  exact ⟨(Net.out_1 _ _ _ _ _ _ _ _ _ r j).trans ((slice2 _ r j).trans g.1),
    (Net.out_2 _ _ _ _ _ _ _ _ _ r j).trans ((slice2 _ r j).trans g.2)⟩

theorem lead_zero (k : Fin 1) : k.val = 0 := Nat.lt_one_iff.mp k.isLt

theorem flushed2_1 (t : Fin cfg2.N) : (dat2 V c).flushed 1 t = ((cfg2.win 1).blk t).view.read (Elt Ideal) (tops V c) := by
  show (cfg2.win 1).cut (grid2.coords t) ((dat2 V c).after 1 t) = _
  rw [after2_1]
  have e := fun r j => (block2 V c t r j).1
  generalize (outsAt2 V c t).1 = o at e ⊢
  funext i
  rw [View.read_apply]
  refine Eq.trans (b := o (ix3 (0 : Fin 1) (i 1) (i 2))) ?_ ((e (i 1) (i 2)).trans ?_)
  · show o i = _
    refine congrArg o (funext fun a => ?_)
    match a with
    | ⟨0, _⟩ => exact Fin.ext (lead_zero (i 0))
    | ⟨1, _⟩ => rfl
    | ⟨2, _⟩ => rfl
  · show tops V c _ = tops V c _
    congr 1
    funext a
    apply Fin.ext
    match a with
    | ⟨0, _⟩ => show 0 = win2_1.index t 0 * 1 + 1 * (i 0).val; rw [(idx2_1 t).1, lead_zero (i 0)]
    | ⟨1, _⟩ => show t.val * 8 + (i 1).val = win2_1.index t 1 * 8 + 1 * (i 1).val; rw [(idx2_1 t).2.1, Nat.one_mul]
    | ⟨2, _⟩ =>
      show (i 2).val = win2_1.index t 2 * 1024 + 1 * (i 2).val
      rw [(idx2_1 t).2.2, Nat.one_mul, Nat.zero_mul, Nat.zero_add]

theorem flushed2_2 (t : Fin cfg2.N) : (dat2 V c).flushed 2 t = ((cfg2.win 2).blk t).view.read (Elt Ideal) (places V c) := by
  show (cfg2.win 2).cut (grid2.coords t) ((dat2 V c).after 2 t) = _
  rw [after2_2]
  have e := fun r j => (block2 V c t r j).2
  generalize (outsAt2 V c t).2 = o at e ⊢
  funext i
  rw [View.read_apply]
  refine Eq.trans (b := o (ix3 (0 : Fin 1) (i 1) (i 2))) ?_ ((e (i 1) (i 2)).trans ?_)
  · show o i = _
    refine congrArg o (funext fun a => ?_)
    match a with
    | ⟨0, _⟩ => exact Fin.ext (lead_zero (i 0))
    | ⟨1, _⟩ => rfl
    | ⟨2, _⟩ => rfl
  · show places V c _ = places V c _
    congr 1
    funext a
    apply Fin.ext
    match a with
    | ⟨0, _⟩ => show 0 = win2_2.index t 0 * 1 + 1 * (i 0).val; rw [(idx2_2 t).1, lead_zero (i 0)]
    | ⟨1, _⟩ => show t.val * 8 + (i 1).val = win2_2.index t 1 * 8 + 1 * (i 1).val; rw [(idx2_2 t).2.1, Nat.one_mul]
    | ⟨2, _⟩ =>
      show (i 2).val = win2_2.index t 2 * 1024 + 1 * (i 2).val
      rw [(idx2_2 t).2.2, Nat.one_mul, Nat.zero_mul, Nat.zero_add]

theorem final2_1 : (dat2 V c).arrAt 1 cfg2.N = tops V c :=
  (dat2 V c).arrAt_eq_of_cover 1 (tops V c) (fun t _ => flushed2_1 V c t) fun i => by
    have h0 : (i 0 : Nat) < 1 := (i 0).isLt
    have h1 : (i 1 : Nat) < 2048 := (i 1).isLt
    have h2 : (i 2 : Nat) < 1024 := (i 2).isLt
    have hN : cfg2.N = 256 := N_2
    obtain ⟨t, ht⟩ : ∃ t : Fin cfg2.N, t.val = (i 1 : Nat) / 8 := ⟨⟨(i 1 : Nat) / 8, by rw [hN]; omega⟩, rfl⟩
    refine ⟨t, flush2_1 t, ?_⟩
    show i ∈ ((View.whole main_v8_0).slice (win2_1.rect t)).set
    rw [View.set_slice_whole, Rect.mem_set_unit]
    have e := idx2_1 t
    intro a
    match a with
    | ⟨0, _⟩ =>
      show win2_1.index t 0 * 1 ≤ (i 0 : Nat) ∧ (i 0 : Nat) < win2_1.index t 0 * 1 + 1
      rw [e.1]; omega
    | ⟨1, _⟩ =>
      show win2_1.index t 1 * 8 ≤ (i 1 : Nat) ∧ (i 1 : Nat) < win2_1.index t 1 * 8 + 8
      rw [e.2.1, ht]; omega
    | ⟨2, _⟩ =>
      show win2_1.index t 2 * 1024 ≤ (i 2 : Nat) ∧ (i 2 : Nat) < win2_1.index t 2 * 1024 + 1024
      rw [e.2.2]; omega

theorem final2_2 : (dat2 V c).arrAt 2 cfg2.N = places V c :=
  (dat2 V c).arrAt_eq_of_cover 2 (places V c) (fun t _ => flushed2_2 V c t) fun i => by
    have h0 : (i 0 : Nat) < 1 := (i 0).isLt
    have h1 : (i 1 : Nat) < 2048 := (i 1).isLt
    have h2 : (i 2 : Nat) < 1024 := (i 2).isLt
    have hN : cfg2.N = 256 := N_2
    obtain ⟨t, ht⟩ : ∃ t : Fin cfg2.N, t.val = (i 1 : Nat) / 8 := ⟨⟨(i 1 : Nat) / 8, by rw [hN]; omega⟩, rfl⟩
    refine ⟨t, flush2_2 t, ?_⟩
    show i ∈ ((View.whole main_v8_1).slice (win2_2.rect t)).set
    rw [View.set_slice_whole, Rect.mem_set_unit]
    have e := idx2_2 t
    intro a
    match a with
    | ⟨0, _⟩ =>
      show win2_2.index t 0 * 1 ≤ (i 0 : Nat) ∧ (i 0 : Nat) < win2_2.index t 0 * 1 + 1
      rw [e.1]; omega
    | ⟨1, _⟩ =>
      show win2_2.index t 1 * 8 ≤ (i 1 : Nat) ∧ (i 1 : Nat) < win2_2.index t 1 * 8 + 8
      rw [e.2.1, ht]; omega
    | ⟨2, _⟩ =>
      show win2_2.index t 2 * 1024 ≤ (i 2 : Nat) ∧ (i 2 : Nat) < win2_2.index t 2 * 1024 + 1024
      rw [e.2.2]; omega

end Top

end Cert.Regions
-- ==== Proof.RefHad.lean ====
/- The reference's Hadamard stage, a reshape into pairs with sums and differences, read on a row. -/
module

public import proofs.«01_k».proof.Proof.Spec
public import Idealize.ShloMosaic.Lib.ValueIdx
public import Idealize.ShloMosaic.Lib.ValueIdxRank6
public import Idealize.ShloMosaic.Lib.Pipeline.Value

@[expose] public section

set_option maxRecDepth 16384

noncomputable section

namespace Cert.RefHad
open Idealize.ShloMosaic Idealize.ShloMosaic.ValueIdx Cert.Spec

variable {F : FTy → Type} [FloatOps F]

/-! ## Positions -/

theorem pos_lt {n h a e c : Nat} (hn : n * 2 * h = 128) (ha : a < n) (he : e < 2) (hc : c < h) : (a * 2 + e) * h + c < 128 := by
  have h1 : (a * 2 + e + 1) * h ≤ n * 2 * h := Nat.mul_le_mul_right h (by omega)
  rw [Nat.add_mul, Nat.one_mul] at h1
  omega

/-- An index below a size is itself, also when the size is one. -/
theorem in_one {n v : Nat} (h : v < n) : v = if n = 1 then 0 else v := by
  by_cases h1 : n = 1
  · rw [if_pos h1]; omega
  · rw [if_neg h1]

/-- A lane's pair, half and place. -/
theorem pos_split {n b : Nat} (hn : n * 2 * 2 ^ b = 128) {d : Nat} (hd : d < 128) :
    ∃ a e c : Nat, a < n ∧ e < 2 ∧ c < 2 ^ b ∧ (a * 2 + e) * 2 ^ b + c = d ∧ d.testBit b = decide (e = 1) := by
  have hp : 0 < 2 ^ b := Nat.two_pow_pos b
  have h1 := Nat.div_add_mod d (2 ^ b)
  refine ⟨d / 2 ^ b / 2, d / 2 ^ b % 2, d % 2 ^ b, ?_, Nat.mod_lt _ (by decide), Nat.mod_lt _ hp, ?_, ?_⟩
  · rw [Nat.div_div_eq_div_mul, Nat.div_lt_iff_lt_mul (Nat.mul_pos hp (by decide))]
    calc d < 128 := hd
      _ = n * (2 ^ b * 2) := by rw [← hn]; ring
  · have h2 : d / 2 ^ b / 2 * 2 + d / 2 ^ b % 2 = d / 2 ^ b := by omega
    rw [h2, Nat.mul_comm]
    exact h1
  · rw [Nat.testBit_eq_decide_div_mod_eq]

/-! ## The queries' stage -/

/-- Queries: one axis of 16 heads, one of 128 lanes. -/
abbrev s4 (T H : Nat) : Shape := ⟨4, ![1, T, H, 128]⟩
abbrev s6 (T H n e h : Nat) : Shape := ⟨6, ![1, T, H, n, e, h]⟩
abbrev s5 (T H n h : Nat) : Shape := ⟨5, ![1, T, H, n, h]⟩

/-- One half of every pair of blocks. -/
def half4 (T H n h e : Nat) (c1 : (s4 T H).ShapeCasts (s6 T H n 2 h)) (l : (s6 T H n 2 h).Slices ![0, 0, 0, 0, e, 0] (s6 T H n 1 h))
    (c2 : (s6 T H n 1 h).ShapeCasts (s5 T H n h)) (x : FVec F (s4 T H) .f32) : FVec F (s5 T H n h) .f32 :=
  shapeCast (s5 T H n h) (extractStridedSlice (s6 T H n 1 h) ![0, 0, 0, 0, e, 0] (shapeCast (s6 T H n 2 h) x c1) l) c2

/-- One stage. -/
def had4 (T H n h : Nat) (c1 : (s4 T H).ShapeCasts (s6 T H n 2 h)) (l0 : (s6 T H n 2 h).Slices ![0, 0, 0, 0, 0, 0] (s6 T H n 1 h))
    (l1 : (s6 T H n 2 h).Slices ![0, 0, 0, 0, 1, 0] (s6 T H n 1 h)) (c2 : (s6 T H n 1 h).ShapeCasts (s5 T H n h))
    (bc : (s5 T H n h).BroadcastsInDim (s6 T H n 1 h) ![0, 1, 2, 3, 5])
    (cc : Shape.Concatenates [s6 T H n 1 h, s6 T H n 1 h] (s6 T H n 2 h) 4) (c3 : (s6 T H n 2 h).ShapeCasts (s4 T H))
    (x : FVec F (s4 T H) .f32) : FVec F (s4 T H) .f32 :=
  shapeCast (s4 T H)
    (concatenate (s6 T H n 2 h) 4
      [⟨s6 T H n 1 h, broadcastInDim (s6 T H n 1 h) ![0, 1, 2, 3, 5] bc
          (addf (half4 T H n h 0 c1 l0 c2 x) (half4 T H n h 1 c1 l1 c2 x))⟩,
       ⟨s6 T H n 1 h, broadcastInDim (s6 T H n 1 h) ![0, 1, 2, 3, 5] bc
          (subf (half4 T H n h 0 c1 l0 c2 x) (half4 T H n h 1 c1 l1 c2 x))⟩] cc) c3

/-- One head's row, zero past the end. -/
def row4 {T H : Nat} (x : FVec Ideal (s4 T H) .f32) (t : Fin T) (k : Fin H) (d : Nat) : EReal :=
  if h : d < 128 then x (ix4 (0 : Fin 1) t k ⟨d, h⟩) else 0

theorem row4_lt {T H : Nat} (x : FVec Ideal (s4 T H) .f32) (t : Fin T) (k : Fin H) (d : Nat) (h : d < 128) :
    row4 x t k d = x (ix4 (0 : Fin 1) t k ⟨d, h⟩) := dif_pos h

theorem half4_at (T H n h e : Nat) (hn : n * 2 * h = 128) (he : e < 2) (c1 : (s4 T H).ShapeCasts (s6 T H n 2 h))
    (l : (s6 T H n 2 h).Slices ![0, 0, 0, 0, e, 0] (s6 T H n 1 h)) (c2 : (s6 T H n 1 h).ShapeCasts (s5 T H n h))
    (x : FVec Ideal (s4 T H) .f32) (t : Fin T) (k : Fin H) (a : Fin n) (c : Fin h) :
    half4 (F := Ideal) T H n h e c1 l c2 x (ix5 (0 : Fin 1) t k a c) = row4 x t k ((a.val * 2 + e) * h + c.val) := by
  rw [row4_lt _ _ _ _ (pos_lt hn a.isLt he c.isLt)]
  unfold half4
  refine (shapeCast_apply _ c2 (ix5 (0 : Fin 1) t k a c) (ix6 (0 : Fin 1) t k a (0 : Fin 1) c) ?_).trans ?_
  · rw [Shape.rowMajor_val_six, Shape.rowMajor_val_five]
    show ((((0 * T + t.val) * H + k.val) * n + a.val) * 1 + 0) * h + c.val = (((0 * T + t.val) * H + k.val) * n + a.val) * h + c.val
    rw [Nat.mul_one, Nat.add_zero]
  · refine (extractStridedSlice_apply _ _ l _ (ix6 (0 : Fin 1) t k a (⟨e, he⟩ : Fin 2) c) fun ax => ?_).trans ?_
    · match ax with
      | ⟨0, _⟩ => rfl
      | ⟨1, _⟩ => exact (Nat.zero_add _).symm
      | ⟨2, _⟩ => exact (Nat.zero_add _).symm
      | ⟨3, _⟩ => exact (Nat.zero_add _).symm
      | ⟨4, _⟩ => rfl
      | ⟨5, _⟩ => exact (Nat.zero_add _).symm
    · refine shapeCast_apply x c1 _ _ ?_
      rw [Shape.rowMajor_val_six, Shape.rowMajor_val_four]
      show ((0 * T + t.val) * H + k.val) * 128 + ((a.val * 2 + e) * h + c.val)
        = ((((0 * T + t.val) * H + k.val) * n + a.val) * 2 + e) * h + c.val
      rw [← hn]; ring

theorem row_had4 (T H n b : Nat) (hn : n * 2 * 2 ^ b = 128) (c1 : (s4 T H).ShapeCasts (s6 T H n 2 (2 ^ b)))
    (l0 : (s6 T H n 2 (2 ^ b)).Slices ![0, 0, 0, 0, 0, 0] (s6 T H n 1 (2 ^ b)))
    (l1 : (s6 T H n 2 (2 ^ b)).Slices ![0, 0, 0, 0, 1, 0] (s6 T H n 1 (2 ^ b)))
    (c2 : (s6 T H n 1 (2 ^ b)).ShapeCasts (s5 T H n (2 ^ b)))
    (bc : (s5 T H n (2 ^ b)).BroadcastsInDim (s6 T H n 1 (2 ^ b)) ![0, 1, 2, 3, 5])
    (cc : Shape.Concatenates [s6 T H n 1 (2 ^ b), s6 T H n 1 (2 ^ b)] (s6 T H n 2 (2 ^ b)) 4)
    (c3 : (s6 T H n 2 (2 ^ b)).ShapeCasts (s4 T H)) (x : FVec Ideal (s4 T H) .f32) (t : Fin T) (k : Fin H) (d : Nat) (hd : d < 128) :
    row4 (had4 (F := Ideal) T H n (2 ^ b) c1 l0 l1 c2 bc cc c3 x) t k d = hadStep b (row4 x t k) d := by
  obtain ⟨a, e, c, ha, he, hc, hpos, hbit⟩ := pos_split hn hd
  rw [row4_lt _ _ _ _ hd]
  have hb : ∀ (y : FVec Ideal (s5 T H n (2 ^ b)) .f32) (e' : Fin 1),
      broadcastInDim (s6 T H n 1 (2 ^ b)) ![0, 1, 2, 3, 5] bc y (ix6 (0 : Fin 1) t k (⟨a, ha⟩ : Fin n) e' (⟨c, hc⟩ : Fin (2 ^ b)))
        = y (ix5 (0 : Fin 1) t k (⟨a, ha⟩ : Fin n) (⟨c, hc⟩ : Fin (2 ^ b))) := by
    intro y e'
    refine broadcastInDim_apply _ bc y _ _ fun ax => ?_
    match ax with
    | ⟨0, _⟩ => rfl
    | ⟨1, _⟩ =>
      exact in_one t.isLt
    | ⟨2, _⟩ =>
      exact in_one k.isLt
    | ⟨3, _⟩ =>
      exact in_one ha
    | ⟨4, _⟩ =>
      exact in_one hc
  unfold had4
  refine (shapeCast_apply _ c3 _ (ix6 (0 : Fin 1) t k (⟨a, ha⟩ : Fin n) (⟨e, he⟩ : Fin 2) (⟨c, hc⟩ : Fin (2 ^ b))) ?_).trans ?_
  · rw [Shape.rowMajor_val_six, Shape.rowMajor_val_four]
    show ((((0 * T + t.val) * H + k.val) * n + a) * 2 + e) * 2 ^ b + c = ((0 * T + t.val) * H + k.val) * 128 + d
    rw [← hn, ← hpos]; ring
  unfold hadStep
  rw [hbit]
  by_cases h1 : e = 1
  · subst h1
    rw [if_pos (by decide)]
    refine (concatenate_pair_apply_right (t := s6 T H n 2 (2 ^ b)) (s₁ := s6 T H n 1 (2 ^ b)) (s₂ := s6 T H n 1 (2 ^ b)) 4 _ _ cc _
      rfl rfl (ix6 (0 : Fin 1) t k (⟨a, ha⟩ : Fin n) (0 : Fin 1) (⟨c, hc⟩ : Fin (2 ^ b))) (fun ax hax => ?_) ?_).trans ?_
    · match ax with
      | ⟨0, _⟩ => rfl
      | ⟨1, _⟩ => rfl
      | ⟨2, _⟩ => rfl
      | ⟨3, _⟩ => rfl
      | ⟨4, _⟩ => exact absurd rfl hax
      | ⟨5, _⟩ => rfl
    · rfl
    · rw [hb]
      show half4 (F := Ideal) T H n _ 0 c1 l0 c2 x _ - half4 (F := Ideal) T H n _ 1 c1 l1 c2 x _ = _
      rw [half4_at T H n _ 0 hn (by decide), half4_at T H n _ 1 hn (by decide)]
      show row4 x t k ((a * 2 + 0) * 2 ^ b + c) - row4 x t k ((a * 2 + 1) * 2 ^ b + c) = _
      have e0 : (a * 2 + 0) * 2 ^ b + c = d - 2 ^ b := by
        rw [← hpos, Nat.add_mul (a * 2) 1, Nat.one_mul, Nat.add_zero]
        omega
      rw [e0, hpos]
  · have h0 : e = 0 := by omega
    subst h0
    rw [if_neg (by decide)]
    refine (concatenate_pair_apply_left (t := s6 T H n 2 (2 ^ b)) (s₁ := s6 T H n 1 (2 ^ b)) (s₂ := s6 T H n 1 (2 ^ b)) 4 _ _ cc _
      rfl (ix6 (0 : Fin 1) t k (⟨a, ha⟩ : Fin n) (0 : Fin 1) (⟨c, hc⟩ : Fin (2 ^ b))) (fun ax => ?_)).trans ?_
    · match ax with
      | ⟨0, _⟩ => rfl
      | ⟨1, _⟩ => rfl
      | ⟨2, _⟩ => rfl
      | ⟨3, _⟩ => rfl
      | ⟨4, _⟩ => rfl
      | ⟨5, _⟩ => rfl
    · rw [hb]
      show half4 (F := Ideal) T H n _ 0 c1 l0 c2 x _ + half4 (F := Ideal) T H n _ 1 c1 l1 c2 x _ = _
      rw [half4_at T H n _ 0 hn (by decide), half4_at T H n _ 1 hn (by decide)]
      show row4 x t k ((a * 2 + 0) * 2 ^ b + c) + row4 x t k ((a * 2 + 1) * 2 ^ b + c) = _
      have e1 : (a * 2 + 1) * 2 ^ b + c = d + 2 ^ b := by rw [← hpos]; ring
      rw [e1, hpos]

/-! ## The keys' stage -/

/-- Keys: one axis of 128 lanes. -/
abbrev s3 (T : Nat) : Shape := ⟨3, ![1, T, 128]⟩
abbrev r5 (T n e h : Nat) : Shape := ⟨5, ![1, T, n, e, h]⟩
abbrev r4 (T n h : Nat) : Shape := ⟨4, ![1, T, n, h]⟩

/-- One half of every pair of blocks. -/
def half3 (T n h e : Nat) (c1 : (s3 T).ShapeCasts (r5 T n 2 h)) (l : (r5 T n 2 h).Slices ![0, 0, 0, e, 0] (r5 T n 1 h))
    (c2 : (r5 T n 1 h).ShapeCasts (r4 T n h)) (x : FVec F (s3 T) .f32) : FVec F (r4 T n h) .f32 :=
  shapeCast (r4 T n h) (extractStridedSlice (r5 T n 1 h) ![0, 0, 0, e, 0] (shapeCast (r5 T n 2 h) x c1) l) c2

/-- One stage. -/
def had3 (T n h : Nat) (c1 : (s3 T).ShapeCasts (r5 T n 2 h)) (l0 : (r5 T n 2 h).Slices ![0, 0, 0, 0, 0] (r5 T n 1 h))
    (l1 : (r5 T n 2 h).Slices ![0, 0, 0, 1, 0] (r5 T n 1 h)) (c2 : (r5 T n 1 h).ShapeCasts (r4 T n h))
    (bc : (r4 T n h).BroadcastsInDim (r5 T n 1 h) ![0, 1, 2, 4])
    (cc : Shape.Concatenates [r5 T n 1 h, r5 T n 1 h] (r5 T n 2 h) 3) (c3 : (r5 T n 2 h).ShapeCasts (s3 T))
    (x : FVec F (s3 T) .f32) : FVec F (s3 T) .f32 :=
  shapeCast (s3 T)
    (concatenate (r5 T n 2 h) 3
      [⟨r5 T n 1 h, broadcastInDim (r5 T n 1 h) ![0, 1, 2, 4] bc
          (addf (half3 T n h 0 c1 l0 c2 x) (half3 T n h 1 c1 l1 c2 x))⟩,
       ⟨r5 T n 1 h, broadcastInDim (r5 T n 1 h) ![0, 1, 2, 4] bc
          (subf (half3 T n h 0 c1 l0 c2 x) (half3 T n h 1 c1 l1 c2 x))⟩] cc) c3

/-- One row, zero past the end. -/
def row3 {T : Nat} (x : FVec Ideal (s3 T) .f32) (t : Fin T) (d : Nat) : EReal :=
  if h : d < 128 then x (ix3 (0 : Fin 1) t ⟨d, h⟩) else 0

theorem row3_lt {T : Nat} (x : FVec Ideal (s3 T) .f32) (t : Fin T) (d : Nat) (h : d < 128) :
    row3 x t d = x (ix3 (0 : Fin 1) t ⟨d, h⟩) := dif_pos h

theorem half3_at (T n h e : Nat) (hn : n * 2 * h = 128) (he : e < 2) (c1 : (s3 T).ShapeCasts (r5 T n 2 h))
    (l : (r5 T n 2 h).Slices ![0, 0, 0, e, 0] (r5 T n 1 h)) (c2 : (r5 T n 1 h).ShapeCasts (r4 T n h))
    (x : FVec Ideal (s3 T) .f32) (t : Fin T) (a : Fin n) (c : Fin h) :
    half3 (F := Ideal) T n h e c1 l c2 x (ix4 (0 : Fin 1) t a c) = row3 x t ((a.val * 2 + e) * h + c.val) := by
  rw [row3_lt _ _ _ (pos_lt hn a.isLt he c.isLt)]
  unfold half3
  refine (shapeCast_apply _ c2 (ix4 (0 : Fin 1) t a c) (ix5 (0 : Fin 1) t a (0 : Fin 1) c) ?_).trans ?_
  · rw [Shape.rowMajor_val_five, Shape.rowMajor_val_four]
    show (((0 * T + t.val) * n + a.val) * 1 + 0) * h + c.val = ((0 * T + t.val) * n + a.val) * h + c.val
    rw [Nat.mul_one, Nat.add_zero]
  · refine (extractStridedSlice_apply _ _ l _ (ix5 (0 : Fin 1) t a (⟨e, he⟩ : Fin 2) c) fun ax => ?_).trans ?_
    · match ax with
      | ⟨0, _⟩ => rfl
      | ⟨1, _⟩ => exact (Nat.zero_add _).symm
      | ⟨2, _⟩ => exact (Nat.zero_add _).symm
      | ⟨3, _⟩ => rfl
      | ⟨4, _⟩ => exact (Nat.zero_add _).symm
    · refine shapeCast_apply x c1 _ _ ?_
      rw [Shape.rowMajor_val_five, Shape.rowMajor_val_three]
      show (0 * T + t.val) * 128 + ((a.val * 2 + e) * h + c.val)
        = (((0 * T + t.val) * n + a.val) * 2 + e) * h + c.val
      rw [← hn]; ring

theorem row_had3 (T n b : Nat) (hn : n * 2 * 2 ^ b = 128) (c1 : (s3 T).ShapeCasts (r5 T n 2 (2 ^ b)))
    (l0 : (r5 T n 2 (2 ^ b)).Slices ![0, 0, 0, 0, 0] (r5 T n 1 (2 ^ b)))
    (l1 : (r5 T n 2 (2 ^ b)).Slices ![0, 0, 0, 1, 0] (r5 T n 1 (2 ^ b)))
    (c2 : (r5 T n 1 (2 ^ b)).ShapeCasts (r4 T n (2 ^ b)))
    (bc : (r4 T n (2 ^ b)).BroadcastsInDim (r5 T n 1 (2 ^ b)) ![0, 1, 2, 4])
    (cc : Shape.Concatenates [r5 T n 1 (2 ^ b), r5 T n 1 (2 ^ b)] (r5 T n 2 (2 ^ b)) 3)
    (c3 : (r5 T n 2 (2 ^ b)).ShapeCasts (s3 T)) (x : FVec Ideal (s3 T) .f32) (t : Fin T) (d : Nat) (hd : d < 128) :
    row3 (had3 (F := Ideal) T n (2 ^ b) c1 l0 l1 c2 bc cc c3 x) t d = hadStep b (row3 x t) d := by
  obtain ⟨a, e, c, ha, he, hc, hpos, hbit⟩ := pos_split hn hd
  rw [row3_lt _ _ _ hd]
  have hb : ∀ (y : FVec Ideal (r4 T n (2 ^ b)) .f32) (e' : Fin 1),
      broadcastInDim (r5 T n 1 (2 ^ b)) ![0, 1, 2, 4] bc y (ix5 (0 : Fin 1) t (⟨a, ha⟩ : Fin n) e' (⟨c, hc⟩ : Fin (2 ^ b)))
        = y (ix4 (0 : Fin 1) t (⟨a, ha⟩ : Fin n) (⟨c, hc⟩ : Fin (2 ^ b))) := by
    intro y e'
    refine broadcastInDim_apply _ bc y _ _ fun ax => ?_
    match ax with
    | ⟨0, _⟩ => rfl
    | ⟨1, _⟩ =>
      exact in_one t.isLt
    | ⟨2, _⟩ =>
      exact in_one ha
    | ⟨3, _⟩ =>
      exact in_one hc
  unfold had3
  refine (shapeCast_apply _ c3 _ (ix5 (0 : Fin 1) t (⟨a, ha⟩ : Fin n) (⟨e, he⟩ : Fin 2) (⟨c, hc⟩ : Fin (2 ^ b))) ?_).trans ?_
  · rw [Shape.rowMajor_val_five, Shape.rowMajor_val_three]
    show (((0 * T + t.val) * n + a) * 2 + e) * 2 ^ b + c = (0 * T + t.val) * 128 + d
    rw [← hn, ← hpos]; ring
  unfold hadStep
  rw [hbit]
  by_cases h1 : e = 1
  · subst h1
    rw [if_pos (by decide)]
    refine (concatenate_pair_apply_right (t := r5 T n 2 (2 ^ b)) (s₁ := r5 T n 1 (2 ^ b)) (s₂ := r5 T n 1 (2 ^ b)) 3 _ _ cc _
      rfl rfl (ix5 (0 : Fin 1) t (⟨a, ha⟩ : Fin n) (0 : Fin 1) (⟨c, hc⟩ : Fin (2 ^ b))) (fun ax hax => ?_) ?_).trans ?_
    · match ax with
      | ⟨0, _⟩ => rfl
      | ⟨1, _⟩ => rfl
      | ⟨2, _⟩ => rfl
      | ⟨3, _⟩ => exact absurd rfl hax
      | ⟨4, _⟩ => rfl
    · rfl
    · rw [hb]
      show half3 (F := Ideal) T n _ 0 c1 l0 c2 x _ - half3 (F := Ideal) T n _ 1 c1 l1 c2 x _ = _
      rw [half3_at T n _ 0 hn (by decide), half3_at T n _ 1 hn (by decide)]
      show row3 x t ((a * 2 + 0) * 2 ^ b + c) - row3 x t ((a * 2 + 1) * 2 ^ b + c) = _
      have e0 : (a * 2 + 0) * 2 ^ b + c = d - 2 ^ b := by
        rw [← hpos, Nat.add_mul (a * 2) 1, Nat.one_mul, Nat.add_zero]
        omega
      rw [e0, hpos]
  · have h0 : e = 0 := by omega
    subst h0
    rw [if_neg (by decide)]
    refine (concatenate_pair_apply_left (t := r5 T n 2 (2 ^ b)) (s₁ := r5 T n 1 (2 ^ b)) (s₂ := r5 T n 1 (2 ^ b)) 3 _ _ cc _
      rfl (ix5 (0 : Fin 1) t (⟨a, ha⟩ : Fin n) (0 : Fin 1) (⟨c, hc⟩ : Fin (2 ^ b))) (fun ax => ?_)).trans ?_
    · match ax with
      | ⟨0, _⟩ => rfl
      | ⟨1, _⟩ => rfl
      | ⟨2, _⟩ => rfl
      | ⟨3, _⟩ => rfl
      | ⟨4, _⟩ => rfl
    · rw [hb]
      show half3 (F := Ideal) T n _ 0 c1 l0 c2 x _ + half3 (F := Ideal) T n _ 1 c1 l1 c2 x _ = _
      rw [half3_at T n _ 0 hn (by decide), half3_at T n _ 1 hn (by decide)]
      show row3 x t ((a * 2 + 0) * 2 ^ b + c) + row3 x t ((a * 2 + 1) * 2 ^ b + c) = _
      have e1 : (a * 2 + 1) * 2 ^ b + c = d + 2 ^ b := by rw [← hpos]; ring
      rw [e1, hpos]

end Cert.RefHad
-- ==== Proof.RefRead.lean ====
/- The reference's arrays read row by row. -/
module

public import proofs.«01_k».proof.Proof.RefHad
public import proofs.«01_k».proof.Proof.Gen.ReferenceIdeal.Read

@[expose] public section

set_option maxRecDepth 16384

noncomputable section

namespace Cert.RefRead
open Idealize.ShloMosaic Idealize.ShloMosaic.ValueIdx Cert.Spec Cert.RefHad
open Cert.ReferenceIdeal Cert.ReferenceIdeal.Gen Cert.ReferenceIdeal.Read

variable (x0 : FVec Ideal S1x2048x2048 .f32) (x1 : FVec Ideal S1x2048x1536 .f32) (x2 x3 : FVec Ideal S1x2048x64 .f32)
  (x4 : FVec Ideal S1x2048x2048 .f32) (x5 : FVec Ideal S1536x2048 .f32) (x6 : FVec Ideal S2048x128 .f32)
  (x7 x8 : FVec Ideal S128 .f32) (x9 : FVec Ideal S2048x16 .f32)

/-- A row of a batch of one, zero past the end. -/
def line {T n : Nat} (x : FVec Ideal (⟨3, ![1, T, n]⟩ : Shape) .f32) (t : Fin T) (j : Nat) : EReal :=
  if h : j < n then x (ix3 (0 : Fin 1) t ⟨j, h⟩) else 0

theorem line_lt {T n : Nat} (x : FVec Ideal (⟨3, ![1, T, n]⟩ : Shape) .f32) (t : Fin T) (j : Nat) (h : j < n) :
    line x t j = x (ix3 (0 : Fin 1) t ⟨j, h⟩) := dif_pos h

/-- A vector's entries, zero past the end. -/
def list {n : Nat} (x : FVec Ideal (⟨1, ![n]⟩ : Shape) .f32) (j : Nat) : EReal := if h : j < n then x (ix1 ⟨j, h⟩) else 0

theorem list_lt {n : Nat} (x : FVec Ideal (⟨1, ![n]⟩ : Shape) .f32) (j : Nat) (h : j < n) : list x j = x (ix1 ⟨j, h⟩) := dif_pos h

/-! ## The queries before the transform -/

theorem v1_at (t : Fin 2048) (h : Fin 16) (d : Fin 128) :
    val_main_v1 (F := Ideal) x1 x5 (ix4 (0 : Fin 1) t h d)
      = line (T := 2048) (n := 2048) (val_main_v0 (F := Ideal) x1 x5) t (128 * h.val + d.val) := by
  have hh := h.isLt
  have hd := d.isLt
  have ht := t.isLt
  rw [line_lt (T := 2048) (n := 2048) _ t _ (by omega)]
  refine (val_main_v1_apply (F := Ideal) x1 x5 _).trans (congrArg _ (funext fun a => ?_))
  match a with
  | ⟨0, _⟩ => rfl
  | ⟨1, _⟩ =>
    refine Fin.ext ?_
    show (((0 * 2048 + t.val) * 16 + h.val) * 128 + d.val) / 2048 % 2048 = t.val
    omega
  | ⟨2, _⟩ =>
    refine Fin.ext ?_
    show (((0 * 2048 + t.val) * 16 + h.val) * 128 + d.val) % 2048 = 128 * h.val + d.val
    omega

theorem v3_at (t : Fin 2048) (h : Fin 16) (d : Fin 64) :
    val_main_v3 (F := Ideal) x1 x5 (ix4 (0 : Fin 1) t h d)
      = line (T := 2048) (n := 2048) (val_main_v0 (F := Ideal) x1 x5) t (128 * h.val + (64 + d.val)) := by
  refine (val_main_v3_apply (F := Ideal) x1 x5 _).trans (Eq.trans (congrArg _ ?_) (v1_at x1 x5 t h ⟨64 + d.val, by have := d.isLt; omega⟩))
  funext a
  match a with
  | ⟨0, _⟩ => rfl
  | ⟨1, _⟩ => rfl
  | ⟨2, _⟩ => rfl
  | ⟨3, _⟩ => rfl

theorem v32_at (t : Fin 2048) (h : Fin 16) (d : Fin 32) :
    val_main_v32 (F := Ideal) x1 x5 (ix4 (0 : Fin 1) t h d)
      = line (T := 2048) (n := 2048) (val_main_v0 (F := Ideal) x1 x5) t (128 * h.val + d.val) := by
  refine (val_main_v32_apply (F := Ideal) x1 x5 _).trans ((val_main_v2_apply (F := Ideal) x1 x5 _).trans
    (Eq.trans (congrArg _ ?_) (v1_at x1 x5 t h ⟨d.val, by have := d.isLt; omega⟩)))
  funext a
  match a with
  | ⟨0, _⟩ => rfl
  | ⟨1, _⟩ => rfl
  | ⟨2, _⟩ => rfl
  | ⟨3, _⟩ => rfl

theorem v33_at (t : Fin 2048) (h : Fin 16) (d : Fin 32) :
    val_main_v33 (F := Ideal) x1 x5 (ix4 (0 : Fin 1) t h d)
      = line (T := 2048) (n := 2048) (val_main_v0 (F := Ideal) x1 x5) t (128 * h.val + (32 + d.val)) := by
  refine (val_main_v33_apply (F := Ideal) x1 x5 _).trans ((val_main_v2_apply (F := Ideal) x1 x5 _).trans
    (Eq.trans (congrArg _ ?_) (v1_at x1 x5 t h ⟨32 + d.val, by have := d.isLt; omega⟩)))
  funext a
  match a with
  | ⟨0, _⟩ => rfl
  | ⟨1, _⟩ => rfl
  | ⟨2, _⟩ => rfl
  | ⟨3, _⟩ => rfl

theorem v37_at (t : Fin 2048) (u : Fin 1) (d : Fin 32) :
    val_main_v37 (F := Ideal) x2 (ix4 (0 : Fin 1) t u d) = line (T := 2048) (n := 64) x2 t d.val := by
  have hd := d.isLt
  rw [line_lt (T := 2048) (n := 64) x2 t _ (by omega)]
  refine (val_main_v37_apply (F := Ideal) x2 _).trans ((val_main_v36_apply (F := Ideal) x2 _).trans (congrArg _ ?_))
  funext a
  match a with
  | ⟨0, _⟩ => rfl
  | ⟨1, _⟩ => rfl
  | ⟨2, _⟩ => rfl

theorem v39_at (t : Fin 2048) (u : Fin 1) (d : Fin 32) :
    val_main_v39 (F := Ideal) x3 (ix4 (0 : Fin 1) t u d) = line (T := 2048) (n := 64) x3 t d.val := by
  have hd := d.isLt
  rw [line_lt (T := 2048) (n := 64) x3 t _ (by omega)]
  refine (val_main_v39_apply (F := Ideal) x3 _).trans ((val_main_v38_apply (F := Ideal) x3 _).trans (congrArg _ ?_))
  funext a
  match a with
  | ⟨0, _⟩ => rfl
  | ⟨1, _⟩ => rfl
  | ⟨2, _⟩ => rfl

theorem one_head (t : Fin 2048) (d : Fin 32) (i : S1x2048x1x32.Idx)
    (h0 : (i 0).val = 0) (h1 : (i 1).val = t.val) (h2 : (i 2).val = 0) (h3 : (i 3).val = d.val) :
    i = ix4 (0 : Fin 1) t (0 : Fin 1) d := by
  funext a
  match a with
  | ⟨0, _⟩ => exact Fin.ext h0
  | ⟨1, _⟩ => exact Fin.ext h1
  | ⟨2, _⟩ => exact Fin.ext h2
  | ⟨3, _⟩ => exact Fin.ext h3

theorem v40_at (t : Fin 2048) (h : Fin 16) (d : Fin 32) :
    val_main_v40 (F := Ideal) x2 (ix4 (0 : Fin 1) t h d) = line (T := 2048) (n := 64) x2 t d.val :=
  (val_main_v40_apply (F := Ideal) x2 _).trans
    (Eq.trans (congrArg _ (one_head t d _ rfl rfl rfl rfl)) (v37_at x2 t 0 d))

theorem v42_at (t : Fin 2048) (h : Fin 16) (d : Fin 32) :
    val_main_v42 (F := Ideal) x3 (ix4 (0 : Fin 1) t h d) = line (T := 2048) (n := 64) x3 t d.val :=
  (val_main_v42_apply (F := Ideal) x3 _).trans
    (Eq.trans (congrArg _ (one_head t d _ rfl rfl rfl rfl)) (v39_at x3 t 0 d))

theorem v45_at (t : Fin 2048) (h : Fin 16) (d : Fin 32) :
    val_main_v45 (F := Ideal) x3 (ix4 (0 : Fin 1) t h d) = line (T := 2048) (n := 64) x3 t d.val :=
  (val_main_v45_apply (F := Ideal) x3 _).trans
    (Eq.trans (congrArg _ (one_head t d _ rfl rfl rfl rfl)) (v39_at x3 t 0 d))

theorem v47_at (t : Fin 2048) (h : Fin 16) (d : Fin 32) :
    val_main_v47 (F := Ideal) x2 (ix4 (0 : Fin 1) t h d) = line (T := 2048) (n := 64) x2 t d.val :=
  (val_main_v47_apply (F := Ideal) x2 _).trans
    (Eq.trans (congrArg _ (one_head t d _ rfl rfl rfl rfl)) (v37_at x2 t 0 d))

/-- The mixed and the passed-through lanes of one head, from their three groups. -/
theorem rope_cases (c s f g : ℕ → EReal) (a : Nat) (d : Nat) (hd : d < 128)
    (h0 : ∀ e < 32, d = e → g d = f (128 * a + e) * c e - f (128 * a + (32 + e)) * s e)
    (h1 : ∀ e < 32, d = 32 + e → g d = f (128 * a + e) * s e + f (128 * a + (32 + e)) * c e)
    (h2 : ∀ e < 64, d = 64 + e → g d = f (128 * a + (64 + e))) : g d = rope c s f (128 * a + d) := by
  unfold rope
  have e1 : (128 * a + d) % 128 = d := by omega
  rw [e1]
  by_cases hA : d < 32
  · rw [if_pos hA, h0 d hA rfl]
    have e2 : (128 * a + d) % 32 = d := by omega
    have e3 : 128 * a + d + 32 = 128 * a + (32 + d) := by omega
    rw [e2, e3]
  · rw [if_neg hA]
    by_cases hB : d < 64
    · rw [if_pos hB, h1 (d - 32) (by omega) (by omega)]
      have e2 : (128 * a + d) % 32 = d - 32 := by omega
      have e3 : 128 * a + d - 32 = 128 * a + (d - 32) := by omega
      have e4 : 128 * a + (32 + (d - 32)) = 128 * a + d := by omega
      rw [e2, e3, e4]
    · rw [if_neg hB, h2 (d - 64) (by omega) (by omega)]
      have e4 : 128 * a + (64 + (d - 64)) = 128 * a + d := by omega
      rw [e4]

theorem v44_at (t : Fin 2048) (h : Fin 16) (d : Fin 32) :
    val_main_v44 (F := Ideal) x1 x2 x3 x5 (ix4 (0 : Fin 1) t h d)
      = line (T := 2048) (n := 2048) (val_main_v0 (F := Ideal) x1 x5) t (128 * h.val + d.val) * line (T := 2048) (n := 64) x2 t d.val
        - line (T := 2048) (n := 2048) (val_main_v0 (F := Ideal) x1 x5) t (128 * h.val + (32 + d.val)) * line (T := 2048) (n := 64) x3 t d.val := by
  rw [← v32_at x1 x5 t h d, ← v33_at x1 x5 t h d, ← v40_at x2 t h d, ← v42_at x3 t h d]
  rfl

theorem v49_at (t : Fin 2048) (h : Fin 16) (d : Fin 32) :
    val_main_v49 (F := Ideal) x1 x2 x3 x5 (ix4 (0 : Fin 1) t h d)
      = line (T := 2048) (n := 2048) (val_main_v0 (F := Ideal) x1 x5) t (128 * h.val + d.val) * line (T := 2048) (n := 64) x3 t d.val
        + line (T := 2048) (n := 2048) (val_main_v0 (F := Ideal) x1 x5) t (128 * h.val + (32 + d.val)) * line (T := 2048) (n := 64) x2 t d.val := by
  rw [← v32_at x1 x5 t h d, ← v33_at x1 x5 t h d, ← v45_at x3 t h d, ← v47_at x2 t h d]
  rfl

/-- Two groups of lanes side by side, rank 4: a lane of the first. -/
theorem cat4_left {T H a b n : Nat} (y : FVec Ideal (⟨4, ![1, T, H, a]⟩ : Shape) .f32) (z : FVec Ideal (⟨4, ![1, T, H, b]⟩ : Shape) .f32)
    (hc : Shape.Concatenates [⟨4, ![1, T, H, a]⟩, ⟨4, ![1, T, H, b]⟩] ⟨4, ![1, T, H, n]⟩ 3) (t : Fin T) (h : Fin H) (d : Fin n)
    (hd : d.val < a) :
    concatenate (⟨4, ![1, T, H, n]⟩ : Shape) 3 [⟨(⟨4, ![1, T, H, a]⟩ : Shape), y⟩, ⟨(⟨4, ![1, T, H, b]⟩ : Shape), z⟩] hc (ix4 (0 : Fin 1) t h d)
      = y (ix4 (0 : Fin 1) t h ⟨d.val, hd⟩) :=
  concatenate_pair_apply_left (t := (⟨4, ![1, T, H, n]⟩ : Shape)) (s₁ := (⟨4, ![1, T, H, a]⟩ : Shape)) (s₂ := (⟨4, ![1, T, H, b]⟩ : Shape))
    3 y z hc _ rfl (ix4 (0 : Fin 1) t h ⟨d.val, hd⟩) (fun ax => match ax with
      | ⟨0, _⟩ => rfl
      | ⟨1, _⟩ => rfl
      | ⟨2, _⟩ => rfl
      | ⟨3, _⟩ => rfl)

/-- A lane of the second. -/
theorem cat4_right {T H a b n : Nat} (y : FVec Ideal (⟨4, ![1, T, H, a]⟩ : Shape) .f32) (z : FVec Ideal (⟨4, ![1, T, H, b]⟩ : Shape) .f32)
    (hc : Shape.Concatenates [⟨4, ![1, T, H, a]⟩, ⟨4, ![1, T, H, b]⟩] ⟨4, ![1, T, H, n]⟩ 3) (t : Fin T) (h : Fin H) (d : Fin n)
    (e : Fin b) (hd : d.val = a + e.val) :
    concatenate (⟨4, ![1, T, H, n]⟩ : Shape) 3 [⟨(⟨4, ![1, T, H, a]⟩ : Shape), y⟩, ⟨(⟨4, ![1, T, H, b]⟩ : Shape), z⟩] hc (ix4 (0 : Fin 1) t h d)
      = z (ix4 (0 : Fin 1) t h e) :=
  concatenate_pair_apply_right (t := (⟨4, ![1, T, H, n]⟩ : Shape)) (s₁ := (⟨4, ![1, T, H, a]⟩ : Shape)) (s₂ := (⟨4, ![1, T, H, b]⟩ : Shape))
    3 y z hc _ rfl rfl (ix4 (0 : Fin 1) t h e) (fun ax hax => match ax, hax with
      | ⟨0, _⟩, _ => rfl
      | ⟨1, _⟩, _ => rfl
      | ⟨2, _⟩, _ => rfl
      | ⟨3, _⟩, hax => absurd rfl hax) (by show e.val + a = d.val; omega)

theorem row_v58 (t : Fin 2048) (h : Fin 16) (d : Nat) (hd : d < 128) :
    row4 (T := 2048) (H := 16) (val_main_v58 (F := Ideal) x1 x2 x3 x5) t h d
      = rope (line (T := 2048) (n := 64) x2 t) (line (T := 2048) (n := 64) x3 t)
          (line (T := 2048) (n := 2048) (val_main_v0 (F := Ideal) x1 x5) t) (128 * h.val + d) := by
  refine rope_cases _ _ _ (row4 (T := 2048) (H := 16) (val_main_v58 (F := Ideal) x1 x2 x3 x5) t h) h.val d hd ?_ ?_ ?_
  · intro e he hde
    rw [row4_lt _ _ _ _ hd]
    refine (cat4_left (T := 2048) (H := 16) (a := 64) (b := 64) (n := 128) (val_main_v50 (F := Ideal) x1 x2 x3 x5) _ _ t h ⟨d, hd⟩
      (by show d < 64; omega)).trans ?_
    refine (cat4_left (T := 2048) (H := 16) (a := 32) (b := 32) (n := 64) (val_main_v44 (F := Ideal) x1 x2 x3 x5) _ _ t h ⟨d, by omega⟩
      (by show d < 32; omega)).trans ?_
    subst hde
    exact v44_at x1 x2 x3 x5 t h ⟨d, he⟩
  · intro e he hde
    rw [row4_lt _ _ _ _ hd]
    refine (cat4_left (T := 2048) (H := 16) (a := 64) (b := 64) (n := 128) (val_main_v50 (F := Ideal) x1 x2 x3 x5) _ _ t h ⟨d, hd⟩
      (by show d < 64; omega)).trans ?_
    refine (cat4_right (T := 2048) (H := 16) (a := 32) (b := 32) (n := 64) (val_main_v44 (F := Ideal) x1 x2 x3 x5)
      (val_main_v49 (F := Ideal) x1 x2 x3 x5) _ t h ⟨d, by omega⟩ ⟨e, he⟩ hde).trans ?_
    exact v49_at x1 x2 x3 x5 t h ⟨e, he⟩
  · intro e he hde
    rw [row4_lt _ _ _ _ hd]
    refine (cat4_right (T := 2048) (H := 16) (a := 64) (b := 64) (n := 128) (val_main_v50 (F := Ideal) x1 x2 x3 x5)
      (val_main_v3 (F := Ideal) x1 x5) _ t h ⟨d, hd⟩ ⟨e, he⟩ hde).trans ?_
    exact v3_at x1 x5 t h ⟨e, he⟩

end Cert.RefRead
-- ==== Proof.RefKey.lean ====
/- The reference's keys: normalised, mixed, and the transform's seven stages on keys and queries. -/
module

public import proofs.«01_k».proof.Proof.RefRead
public import Idealize.ShloMosaic.Lib.IdealHost

@[expose] public section

set_option maxRecDepth 16384

noncomputable section

namespace Cert.RefRead
open Idealize.ShloMosaic Idealize.ShloMosaic.ValueIdx Cert.Spec Cert.RefHad
open Cert.ReferenceIdeal Cert.ReferenceIdeal.Gen Cert.ReferenceIdeal.Read

variable (x0 : FVec Ideal S1x2048x2048 .f32) (x1 : FVec Ideal S1x2048x1536 .f32) (x2 x3 : FVec Ideal S1x2048x64 .f32)
  (x4 : FVec Ideal S1x2048x2048 .f32) (x5 : FVec Ideal S1536x2048 .f32) (x6 : FVec Ideal S2048x128 .f32)
  (x7 x8 : FVec Ideal S128 .f32) (x9 : FVec Ideal S2048x16 .f32)

/-! ## Words as numbers -/

theorem word_128 : Ideal.ofBits .f32 0x43000000#32 = ((128 : ℝ) : EReal) := by
  simp [Ideal.ofBits, Ideal.ieee, -EReal.coe_mul]; norm_num

theorem word_128th : Ideal.ofBits .f32 0x3C000000#32 = (((128 : ℝ)⁻¹ : ℝ) : EReal) := by
  simp [Ideal.ofBits, Ideal.ieee, -EReal.coe_mul]; norm_num

/-- A quarter of the lane scale is the weights' scale. -/
theorem word_quarter : Ideal.ofBits .f32 0x3CB504F3#32 = Ideal.ofBits .f32 0x3DB504F3#32 * Ideal.ofBits .f32 0x3E800000#32 := by
  have a : Ideal.ofBits .f32 0x3CB504F3#32 = (((11863283 : ℝ) * (2 : ℝ) ^ (-29 : ℤ) : ℝ) : EReal) := by
    simp [Ideal.ofBits, Ideal.ieee, -EReal.coe_mul]
  have b : Ideal.ofBits .f32 0x3DB504F3#32 = (((11863283 : ℝ) * (2 : ℝ) ^ (-27 : ℤ) : ℝ) : EReal) := by
    simp [Ideal.ofBits, Ideal.ieee, -EReal.coe_mul]
  have c : Ideal.ofBits .f32 0x3E800000#32 = (((2 : ℝ) ^ (-2 : ℤ) : ℝ) : EReal) := by
    simp [Ideal.ofBits, Ideal.ieee, -EReal.coe_mul]; norm_num
  rw [a, b, c, ← EReal.coe_mul]
  congr 1
  norm_num

/-- Dividing by 128 is scaling by its reciprocal. -/
theorem div_128 (x : EReal) : Ideal.div x (Ideal.ofBits .f32 0x43000000#32) = x * Ideal.ofBits .f32 0x3C000000#32 := by
  rw [word_128, word_128th, EReal.coe_inv]
  unfold Ideal.div
  rw [if_neg]
  exact_mod_cast (by norm_num : (128 : ℝ) ≠ 0)

/-! ## The mean and the normalised row -/

theorem v4_at (t : Fin 2048) (j : Fin 128) :
    val_main_v4 (F := Ideal) x0 x6 (ix3 (0 : Fin 1) t j) = line (T := 2048) (n := 128) (val_main_v4 (F := Ideal) x0 x6) t j.val :=
  (line_lt (T := 2048) (n := 128) _ t j.val j.isLt).symm

theorem v8_at (t : Fin 2048) (u : Fin 1) :
    val_main_v8 (F := Ideal) x0 x6 (ix3 (0 : Fin 1) t u) = Spec.mean (line (T := 2048) (n := 128) (val_main_v4 (F := Ideal) x0 x6) t) := by
  refine Eq.trans ?_ (div_128 _)
  refine Eq.trans (b := Ideal.div (val_main_v6 (F := Ideal) x0 x6 (ix3 (0 : Fin 1) t u)) (Ideal.ofBits .f32 0x43000000#32)) ?_ ?_
  · exact congrArg (Ideal.div _) (val_main_v7_apply (F := Ideal) _)
  · refine congrArg (Ideal.div · _) ?_
    refine (val_main_v6_apply (F := Ideal) x0 x6 _).trans ((val_main_v5_apply x0 x6 _).trans ?_)
    rw [Finset.sum_range]
    refine Eq.trans (congrArg (· + _) Ideal.ofBits_zero_f32) ((zero_add _).trans (Finset.sum_congr rfl fun k _ => ?_))
    refine Eq.trans (congrArg _ ?_) (v4_at x0 x6 t k)
    funext a
    match a with
    | ⟨0, _⟩ => rfl
    | ⟨1, _⟩ => rfl
    | ⟨2, _⟩ => rfl

theorem v9_at (t : Fin 2048) (j : Fin 128) :
    val_main_v9 (F := Ideal) x0 x6 (ix3 (0 : Fin 1) t j) = Spec.mean (line (T := 2048) (n := 128) (val_main_v4 (F := Ideal) x0 x6) t) := by
  refine (val_main_v9_apply (F := Ideal) x0 x6 _).trans (Eq.trans (congrArg _ ?_) (v8_at x0 x6 t 0))
  funext a
  match a with
  | ⟨0, _⟩ => rfl
  | ⟨1, _⟩ => rfl
  | ⟨2, _⟩ => rfl

theorem v16_at (t : Fin 2048) (j : Fin 128) :
    val_main_v16 (F := Ideal) x0 x6 (ix3 (0 : Fin 1) t j) = Spec.mean (line (T := 2048) (n := 128) (val_main_v4 (F := Ideal) x0 x6) t) := by
  refine (val_main_v16_apply (F := Ideal) x0 x6 _).trans (Eq.trans (congrArg _ ?_) (v8_at x0 x6 t 0))
  funext a
  match a with
  | ⟨0, _⟩ => rfl
  | ⟨1, _⟩ => rfl
  | ⟨2, _⟩ => rfl

/-- The mean of the squared distances from the mean. -/
theorem v15_at (t : Fin 2048) (u : Fin 1) :
    val_main_v15 (F := Ideal) x0 x6 (ix3 (0 : Fin 1) t u)
      = Spec.mean (fun k => (line (T := 2048) (n := 128) (val_main_v4 (F := Ideal) x0 x6) t k
            - Spec.mean (line (T := 2048) (n := 128) (val_main_v4 (F := Ideal) x0 x6) t))
          * (line (T := 2048) (n := 128) (val_main_v4 (F := Ideal) x0 x6) t k
            - Spec.mean (line (T := 2048) (n := 128) (val_main_v4 (F := Ideal) x0 x6) t))) := by
  refine Eq.trans ?_ (div_128 _)
  refine Eq.trans (b := Ideal.div (val_main_v13 (F := Ideal) x0 x6 (ix3 (0 : Fin 1) t u)) (Ideal.ofBits .f32 0x43000000#32)) ?_ ?_
  · exact congrArg (Ideal.div _) (val_main_v14_apply (F := Ideal) _)
  · refine congrArg (Ideal.div · _) ?_
    refine (val_main_v13_apply (F := Ideal) x0 x6 _).trans ((val_main_v12_apply x0 x6 _).trans ?_)
    rw [Finset.sum_range]
    refine Eq.trans (congrArg (· + _) Ideal.ofBits_zero_f32) ((zero_add _).trans (Finset.sum_congr rfl fun k _ => ?_))
    rw [← v9_at x0 x6 t k, ← v4_at x0 x6 t k]
    refine Eq.trans (congrArg (val_main_v11 (F := Ideal) x0 x6) (a₂ := ix3 (0 : Fin 1) t k) ?_) rfl
    funext a
    match a with
    | ⟨0, _⟩ => rfl
    | ⟨1, _⟩ => rfl
    | ⟨2, _⟩ => rfl

theorem v21_at (t : Fin 2048) (j : Fin 128) :
    val_main_v21 (F := Ideal) x0 x6 (ix3 (0 : Fin 1) t j)
      = Ideal.sqrt (Spec.mean (fun k => (line (T := 2048) (n := 128) (val_main_v4 (F := Ideal) x0 x6) t k
            - Spec.mean (line (T := 2048) (n := 128) (val_main_v4 (F := Ideal) x0 x6) t))
          * (line (T := 2048) (n := 128) (val_main_v4 (F := Ideal) x0 x6) t k
            - Spec.mean (line (T := 2048) (n := 128) (val_main_v4 (F := Ideal) x0 x6) t))) + Ideal.ofBits .f32 0x3727C5AC#32) := by
  refine (val_main_v21_apply (F := Ideal) x0 x6 _).trans ?_
  refine Eq.trans (congrArg (val_main_v20 (F := Ideal) x0 x6) (a₂ := ix3 (0 : Fin 1) t (0 : Fin 1)) ?_) ?_
  · funext a
    match a with
    | ⟨0, _⟩ => rfl
    | ⟨1, _⟩ => rfl
    | ⟨2, _⟩ => rfl
  · refine congrArg Ideal.sqrt ?_
    exact congrArg₂ (· + ·) (v15_at x0 x6 t 0) (val_main_v18_apply (F := Ideal) _)

theorem v24_at (t : Fin 2048) (j : Fin 128) : val_main_v24 (F := Ideal) x7 (ix3 (0 : Fin 1) t j) = list (n := 128) x7 j.val := by
  rw [list_lt (n := 128) x7 _ j.isLt]
  refine (val_main_v24_apply (F := Ideal) x7 _).trans ((val_main_v23_apply (F := Ideal) x7 _).trans (congrArg _ ?_))
  funext a
  match a with
  | ⟨0, _⟩ => rfl

theorem v27_at (t : Fin 2048) (j : Fin 128) : val_main_v27 (F := Ideal) x8 (ix3 (0 : Fin 1) t j) = list (n := 128) x8 j.val := by
  rw [list_lt (n := 128) x8 _ j.isLt]
  refine (val_main_v27_apply (F := Ideal) x8 _).trans ((val_main_v26_apply (F := Ideal) x8 _).trans (congrArg _ ?_))
  funext a
  match a with
  | ⟨0, _⟩ => rfl

/-- The normalised key rows. -/
abbrev normed (t : Fin 2048) : ℕ → EReal :=
  Spec.norm (list (n := 128) x7) (list (n := 128) x8) (line (T := 2048) (n := 128) (val_main_v4 (F := Ideal) x0 x6) t)

theorem v28_at (t : Fin 2048) (j : Fin 128) :
    val_main_v28 (F := Ideal) x0 x6 x7 x8 (ix3 (0 : Fin 1) t j) = normed x0 x6 x7 x8 t j.val := by
  unfold normed Spec.norm
  rw [← v21_at x0 x6 t j, ← v24_at x7 t j, ← v27_at x8 t j, ← v16_at x0 x6 t j, ← v4_at x0 x6 t j]
  rfl

/-! ## The keys before the transform -/

theorem v31_at (t : Fin 2048) (d : Fin 64) :
    val_main_v31 (F := Ideal) x0 x6 x7 x8 (ix3 (0 : Fin 1) t d) = normed x0 x6 x7 x8 t (64 + d.val) := by
  refine (val_main_v31_apply (F := Ideal) x0 x6 x7 x8 _).trans (Eq.trans (congrArg _ ?_)
    (v28_at x0 x6 x7 x8 t ⟨64 + d.val, by have := d.isLt; omega⟩))
  funext a
  match a with
  | ⟨0, _⟩ => rfl
  | ⟨1, _⟩ => rfl
  | ⟨2, _⟩ => rfl

theorem v34_at (t : Fin 2048) (u : Fin 1) (d : Fin 32) :
    val_main_v34 (F := Ideal) x0 x6 x7 x8 (ix4 (0 : Fin 1) t u d) = normed x0 x6 x7 x8 t d.val := by
  refine (val_main_v34_apply (F := Ideal) x0 x6 x7 x8 _).trans ((val_main_v30_apply (F := Ideal) x0 x6 x7 x8 _).trans
    ((val_main_v29_apply (F := Ideal) x0 x6 x7 x8 _).trans (Eq.trans (congrArg _ ?_)
      (v28_at x0 x6 x7 x8 t ⟨d.val, by have := d.isLt; omega⟩))))
  funext a
  match a with
  | ⟨0, _⟩ => rfl
  | ⟨1, _⟩ => rfl
  | ⟨2, _⟩ => rfl

theorem v35_at (t : Fin 2048) (u : Fin 1) (d : Fin 32) :
    val_main_v35 (F := Ideal) x0 x6 x7 x8 (ix4 (0 : Fin 1) t u d) = normed x0 x6 x7 x8 t (32 + d.val) := by
  refine (val_main_v35_apply (F := Ideal) x0 x6 x7 x8 _).trans ((val_main_v30_apply (F := Ideal) x0 x6 x7 x8 _).trans
    ((val_main_v29_apply (F := Ideal) x0 x6 x7 x8 _).trans (Eq.trans (congrArg _ ?_)
      (v28_at x0 x6 x7 x8 t ⟨32 + d.val, by have := d.isLt; omega⟩))))
  funext a
  match a with
  | ⟨0, _⟩ => rfl
  | ⟨1, _⟩ => rfl
  | ⟨2, _⟩ => rfl

theorem v53_at (t : Fin 2048) (u : Fin 1) (d : Fin 32) :
    val_main_v53 (F := Ideal) x0 x2 x3 x6 x7 x8 (ix4 (0 : Fin 1) t u d)
      = normed x0 x6 x7 x8 t d.val * line (T := 2048) (n := 64) x2 t d.val
        - normed x0 x6 x7 x8 t (32 + d.val) * line (T := 2048) (n := 64) x3 t d.val := by
  rw [← v34_at x0 x6 x7 x8 t u d, ← v35_at x0 x6 x7 x8 t u d, ← v37_at x2 t u d, ← v39_at x3 t u d]
  rfl

theorem v56_at (t : Fin 2048) (u : Fin 1) (d : Fin 32) :
    val_main_v56 (F := Ideal) x0 x2 x3 x6 x7 x8 (ix4 (0 : Fin 1) t u d)
      = normed x0 x6 x7 x8 t d.val * line (T := 2048) (n := 64) x3 t d.val
        + normed x0 x6 x7 x8 t (32 + d.val) * line (T := 2048) (n := 64) x2 t d.val := by
  rw [← v34_at x0 x6 x7 x8 t u d, ← v35_at x0 x6 x7 x8 t u d, ← v37_at x2 t u d, ← v39_at x3 t u d]
  rfl

theorem v59_at (t : Fin 2048) (d : Fin 64) :
    val_main_v59 (F := Ideal) x0 x2 x3 x6 x7 x8 (ix3 (0 : Fin 1) t d)
      = val_main_v57 (F := Ideal) x0 x2 x3 x6 x7 x8 (ix4 (0 : Fin 1) t (0 : Fin 1) d) := by
  have ht := t.isLt
  have hd := d.isLt
  refine (val_main_v59_apply (F := Ideal) x0 x2 x3 x6 x7 x8 _).trans (congrArg _ ?_)
  funext a
  match a with
  | ⟨0, _⟩ => rfl
  | ⟨1, _⟩ =>
    refine Fin.ext ?_
    show ((0 * 2048 + t.val) * 64 + d.val) / 64 % 2048 = t.val
    omega
  | ⟨2, _⟩ => rfl
  | ⟨3, _⟩ =>
    refine Fin.ext ?_
    show ((0 * 2048 + t.val) * 64 + d.val) % 64 = d.val
    omega

/-- Two groups of lanes side by side, rank 3: a lane of the first. -/
theorem cat3_left {T a b n : Nat} (y : FVec Ideal (⟨3, ![1, T, a]⟩ : Shape) .f32) (z : FVec Ideal (⟨3, ![1, T, b]⟩ : Shape) .f32)
    (hc : Shape.Concatenates [⟨3, ![1, T, a]⟩, ⟨3, ![1, T, b]⟩] ⟨3, ![1, T, n]⟩ 2) (t : Fin T) (d : Fin n)
    (hd : d.val < a) :
    concatenate (⟨3, ![1, T, n]⟩ : Shape) 2 [⟨(⟨3, ![1, T, a]⟩ : Shape), y⟩, ⟨(⟨3, ![1, T, b]⟩ : Shape), z⟩] hc (ix3 (0 : Fin 1) t d)
      = y (ix3 (0 : Fin 1) t ⟨d.val, hd⟩) :=
  concatenate_pair_apply_left (t := (⟨3, ![1, T, n]⟩ : Shape)) (s₁ := (⟨3, ![1, T, a]⟩ : Shape)) (s₂ := (⟨3, ![1, T, b]⟩ : Shape))
    2 y z hc _ rfl (ix3 (0 : Fin 1) t ⟨d.val, hd⟩) (fun ax => match ax with
      | ⟨0, _⟩ => rfl
      | ⟨1, _⟩ => rfl
      | ⟨2, _⟩ => rfl)

/-- A lane of the second. -/
theorem cat3_right {T a b n : Nat} (y : FVec Ideal (⟨3, ![1, T, a]⟩ : Shape) .f32) (z : FVec Ideal (⟨3, ![1, T, b]⟩ : Shape) .f32)
    (hc : Shape.Concatenates [⟨3, ![1, T, a]⟩, ⟨3, ![1, T, b]⟩] ⟨3, ![1, T, n]⟩ 2) (t : Fin T) (d : Fin n)
    (e : Fin b) (hd : d.val = a + e.val) :
    concatenate (⟨3, ![1, T, n]⟩ : Shape) 2 [⟨(⟨3, ![1, T, a]⟩ : Shape), y⟩, ⟨(⟨3, ![1, T, b]⟩ : Shape), z⟩] hc (ix3 (0 : Fin 1) t d)
      = z (ix3 (0 : Fin 1) t e) :=
  concatenate_pair_apply_right (t := (⟨3, ![1, T, n]⟩ : Shape)) (s₁ := (⟨3, ![1, T, a]⟩ : Shape)) (s₂ := (⟨3, ![1, T, b]⟩ : Shape))
    2 y z hc _ rfl rfl (ix3 (0 : Fin 1) t e) (fun ax hax => match ax, hax with
      | ⟨0, _⟩, _ => rfl
      | ⟨1, _⟩, _ => rfl
      | ⟨2, _⟩, hax => absurd rfl hax) (by show e.val + a = d.val; omega)

theorem row_v60 (t : Fin 2048) (d : Nat) (hd : d < 128) :
    row3 (T := 2048) (val_main_v60 (F := Ideal) x0 x2 x3 x6 x7 x8) t d
      = rope (line (T := 2048) (n := 64) x2 t) (line (T := 2048) (n := 64) x3 t) (normed x0 x6 x7 x8 t) d := by
  have key := rope_cases (line (T := 2048) (n := 64) x2 t) (line (T := 2048) (n := 64) x3 t) (normed x0 x6 x7 x8 t)
    (row3 (T := 2048) (val_main_v60 (F := Ideal) x0 x2 x3 x6 x7 x8) t) 0 d hd ?_ ?_ ?_
  · rwa [Nat.mul_zero, Nat.zero_add] at key
  · intro e he hde
    rw [row3_lt _ _ _ hd]
    refine (cat3_left (T := 2048) (a := 64) (b := 64) (n := 128) (val_main_v59 (F := Ideal) x0 x2 x3 x6 x7 x8) _ _ t ⟨d, hd⟩
      (by show d < 64; omega)).trans ((v59_at x0 x2 x3 x6 x7 x8 t _).trans ?_)
    refine (cat4_left (T := 2048) (H := 1) (a := 32) (b := 32) (n := 64) (val_main_v53 (F := Ideal) x0 x2 x3 x6 x7 x8) _ _ t 0 ⟨d, by omega⟩
      (by show d < 32; omega)).trans ?_
    subst hde
    rw [Nat.mul_zero, Nat.zero_add, Nat.zero_add]
    exact v53_at x0 x2 x3 x6 x7 x8 t 0 ⟨d, he⟩
  · intro e he hde
    rw [row3_lt _ _ _ hd]
    refine (cat3_left (T := 2048) (a := 64) (b := 64) (n := 128) (val_main_v59 (F := Ideal) x0 x2 x3 x6 x7 x8) _ _ t ⟨d, hd⟩
      (by show d < 64; omega)).trans ((v59_at x0 x2 x3 x6 x7 x8 t _).trans ?_)
    refine (cat4_right (T := 2048) (H := 1) (a := 32) (b := 32) (n := 64) (val_main_v53 (F := Ideal) x0 x2 x3 x6 x7 x8)
      (val_main_v56 (F := Ideal) x0 x2 x3 x6 x7 x8) _ t 0 ⟨d, by omega⟩ ⟨e, he⟩ hde).trans ?_
    rw [Nat.mul_zero, Nat.zero_add, Nat.zero_add]
    exact v56_at x0 x2 x3 x6 x7 x8 t 0 ⟨e, he⟩
  · intro e he hde
    rw [row3_lt _ _ _ hd]
    refine (cat3_right (T := 2048) (a := 64) (b := 64) (n := 128) (val_main_v59 (F := Ideal) x0 x2 x3 x6 x7 x8)
      (val_main_v31 (F := Ideal) x0 x6 x7 x8) _ t ⟨d, hd⟩ ⟨e, he⟩ hde).trans ?_
    rw [Nat.mul_zero, Nat.zero_add]
    exact v31_at x0 x6 x7 x8 t ⟨e, he⟩

end Cert.RefRead
-- ==== Proof.RefTurn.lean ====
/- The transform's seven stages on the reference's queries and keys. -/
module

public import proofs.«01_k».proof.Proof.RefKey

@[expose] public section

set_option maxRecDepth 16384

noncomputable section

namespace Cert.RefRead
open Idealize.ShloMosaic Idealize.ShloMosaic.ValueIdx Cert.Spec Cert.RefHad
open Cert.ReferenceIdeal Cert.ReferenceIdeal.Gen Cert.ReferenceIdeal.Read

variable (x0 : FVec Ideal S1x2048x2048 .f32) (x1 : FVec Ideal S1x2048x1536 .f32) (x2 x3 : FVec Ideal S1x2048x64 .f32)
  (x5 : FVec Ideal S1536x2048 .f32) (x6 : FVec Ideal S2048x128 .f32) (x7 x8 : FVec Ideal S128 .f32)

/-- A stage lifted to rows known up to lane 128. -/
theorem step_of {b : Nat} (hb : b < 7) {f g k : ℕ → EReal} (h : ∀ d < 128, g d = hadStep b f d) (hf : ∀ d < 128, f d = k d) :
    ∀ d < 128, g d = hadStep b k d :=
  fun d hd => (h d hd).trans (hadStep_congr (m := 1) hb hf d hd)

/-! ## Queries -/

/-- One head before the transform. -/
abbrev preQ (t : Fin 2048) (h : Fin 16) : ℕ → EReal := row4 (T := 2048) (H := 16) (val_main_v58 (F := Ideal) x1 x2 x3 x5) t h

theorem q_stage0 (t : Fin 2048) (h : Fin 16) : ∀ d < 128,
    row4 (T := 2048) (H := 16) (val_main_v71 (F := Ideal) x1 x2 x3 x5) t h d = hadN 1 (preQ x1 x2 x3 x5 t h) d :=
  row_had4 2048 16 64 0 rfl _ _ _ _ _ _ _ (val_main_v58 (F := Ideal) x1 x2 x3 x5) t h

theorem q_stage1 (t : Fin 2048) (h : Fin 16) : ∀ d < 128,
    row4 (T := 2048) (H := 16) (val_main_v82 (F := Ideal) x1 x2 x3 x5) t h d = hadN 2 (preQ x1 x2 x3 x5 t h) d :=
  step_of (by decide) (row_had4 2048 16 32 1 rfl _ _ _ _ _ _ _ (val_main_v71 (F := Ideal) x1 x2 x3 x5) t h) (q_stage0 x1 x2 x3 x5 t h)

theorem q_stage2 (t : Fin 2048) (h : Fin 16) : ∀ d < 128,
    row4 (T := 2048) (H := 16) (val_main_v93 (F := Ideal) x1 x2 x3 x5) t h d = hadN 3 (preQ x1 x2 x3 x5 t h) d :=
  step_of (by decide) (row_had4 2048 16 16 2 rfl _ _ _ _ _ _ _ (val_main_v82 (F := Ideal) x1 x2 x3 x5) t h) (q_stage1 x1 x2 x3 x5 t h)

theorem q_stage3 (t : Fin 2048) (h : Fin 16) : ∀ d < 128,
    row4 (T := 2048) (H := 16) (val_main_v104 (F := Ideal) x1 x2 x3 x5) t h d = hadN 4 (preQ x1 x2 x3 x5 t h) d :=
  step_of (by decide) (row_had4 2048 16 8 3 rfl _ _ _ _ _ _ _ (val_main_v93 (F := Ideal) x1 x2 x3 x5) t h) (q_stage2 x1 x2 x3 x5 t h)

theorem q_stage4 (t : Fin 2048) (h : Fin 16) : ∀ d < 128,
    row4 (T := 2048) (H := 16) (val_main_v115 (F := Ideal) x1 x2 x3 x5) t h d = hadN 5 (preQ x1 x2 x3 x5 t h) d :=
  step_of (by decide) (row_had4 2048 16 4 4 rfl _ _ _ _ _ _ _ (val_main_v104 (F := Ideal) x1 x2 x3 x5) t h) (q_stage3 x1 x2 x3 x5 t h)

theorem q_stage5 (t : Fin 2048) (h : Fin 16) : ∀ d < 128,
    row4 (T := 2048) (H := 16) (val_main_v126 (F := Ideal) x1 x2 x3 x5) t h d = hadN 6 (preQ x1 x2 x3 x5 t h) d :=
  step_of (by decide) (row_had4 2048 16 2 5 rfl _ _ _ _ _ _ _ (val_main_v115 (F := Ideal) x1 x2 x3 x5) t h) (q_stage4 x1 x2 x3 x5 t h)

theorem q_stage6 (t : Fin 2048) (h : Fin 16) : ∀ d < 128,
    row4 (T := 2048) (H := 16) (val_main_v137 (F := Ideal) x1 x2 x3 x5) t h d = hadN 7 (preQ x1 x2 x3 x5 t h) d :=
  step_of (by decide) (row_had4 2048 16 1 6 rfl _ _ _ _ _ _ _ (val_main_v126 (F := Ideal) x1 x2 x3 x5) t h) (q_stage5 x1 x2 x3 x5 t h)

/-- The finished queries: each head is its block of 128 lanes, mixed, transformed and scaled. -/
theorem row_v139 (t : Fin 2048) (h : Fin 16) (d : Nat) (hd : d < 128) :
    row4 (T := 2048) (H := 16) (val_main_v139 (F := Ideal) x1 x2 x3 x5) t h d
      = turn (line (T := 2048) (n := 64) x2 t) (line (T := 2048) (n := 64) x3 t)
          (line (T := 2048) (n := 2048) (val_main_v0 (F := Ideal) x1 x5) t) (128 * h.val + d) := by
  have e : row4 (T := 2048) (H := 16) (val_main_v139 (F := Ideal) x1 x2 x3 x5) t h d
      = row4 (T := 2048) (H := 16) (val_main_v137 (F := Ideal) x1 x2 x3 x5) t h d * Ideal.ofBits .f32 0x3DB504F3#32 := by
    rw [row4_lt _ _ _ _ hd, row4_lt _ _ _ _ hd]
    exact congrArg (_ * ·) (val_main_v138_apply (F := Ideal) _)
  rw [e, q_stage6 x1 x2 x3 x5 t h d hd]
  unfold turn
  rw [hadN_shift h.val _ 7 (by decide) d]
  refine congrArg (· * _) (hadN_congr (m := 1) (fun j hj => ?_) 7 (by decide) d hd)
  exact row_v58 x1 x2 x3 x5 t h j hj

/-! ## Keys -/

/-- A key before the transform. -/
abbrev preK (t : Fin 2048) : ℕ → EReal := row3 (T := 2048) (val_main_v60 (F := Ideal) x0 x2 x3 x6 x7 x8) t

theorem k_stage0 (t : Fin 2048) : ∀ d < 128,
    row3 (T := 2048) (val_main_v150 (F := Ideal) x0 x2 x3 x6 x7 x8) t d = hadN 1 (preK x0 x2 x3 x6 x7 x8 t) d :=
  row_had3 2048 64 0 rfl _ _ _ _ _ _ _ (val_main_v60 (F := Ideal) x0 x2 x3 x6 x7 x8) t

theorem k_stage1 (t : Fin 2048) : ∀ d < 128,
    row3 (T := 2048) (val_main_v161 (F := Ideal) x0 x2 x3 x6 x7 x8) t d = hadN 2 (preK x0 x2 x3 x6 x7 x8 t) d :=
  step_of (by decide) (row_had3 2048 32 1 rfl _ _ _ _ _ _ _ (val_main_v150 (F := Ideal) x0 x2 x3 x6 x7 x8) t) (k_stage0 x0 x2 x3 x6 x7 x8 t)

theorem k_stage2 (t : Fin 2048) : ∀ d < 128,
    row3 (T := 2048) (val_main_v172 (F := Ideal) x0 x2 x3 x6 x7 x8) t d = hadN 3 (preK x0 x2 x3 x6 x7 x8 t) d :=
  step_of (by decide) (row_had3 2048 16 2 rfl _ _ _ _ _ _ _ (val_main_v161 (F := Ideal) x0 x2 x3 x6 x7 x8) t) (k_stage1 x0 x2 x3 x6 x7 x8 t)

theorem k_stage3 (t : Fin 2048) : ∀ d < 128,
    row3 (T := 2048) (val_main_v183 (F := Ideal) x0 x2 x3 x6 x7 x8) t d = hadN 4 (preK x0 x2 x3 x6 x7 x8 t) d :=
  step_of (by decide) (row_had3 2048 8 3 rfl _ _ _ _ _ _ _ (val_main_v172 (F := Ideal) x0 x2 x3 x6 x7 x8) t) (k_stage2 x0 x2 x3 x6 x7 x8 t)

theorem k_stage4 (t : Fin 2048) : ∀ d < 128,
    row3 (T := 2048) (val_main_v194 (F := Ideal) x0 x2 x3 x6 x7 x8) t d = hadN 5 (preK x0 x2 x3 x6 x7 x8 t) d :=
  step_of (by decide) (row_had3 2048 4 4 rfl _ _ _ _ _ _ _ (val_main_v183 (F := Ideal) x0 x2 x3 x6 x7 x8) t) (k_stage3 x0 x2 x3 x6 x7 x8 t)

theorem k_stage5 (t : Fin 2048) : ∀ d < 128,
    row3 (T := 2048) (val_main_v205 (F := Ideal) x0 x2 x3 x6 x7 x8) t d = hadN 6 (preK x0 x2 x3 x6 x7 x8 t) d :=
  step_of (by decide) (row_had3 2048 2 5 rfl _ _ _ _ _ _ _ (val_main_v194 (F := Ideal) x0 x2 x3 x6 x7 x8) t) (k_stage4 x0 x2 x3 x6 x7 x8 t)

theorem k_stage6 (t : Fin 2048) : ∀ d < 128,
    row3 (T := 2048) (val_main_v216 (F := Ideal) x0 x2 x3 x6 x7 x8) t d = hadN 7 (preK x0 x2 x3 x6 x7 x8 t) d :=
  step_of (by decide) (row_had3 2048 1 6 rfl _ _ _ _ _ _ _ (val_main_v205 (F := Ideal) x0 x2 x3 x6 x7 x8) t) (k_stage5 x0 x2 x3 x6 x7 x8 t)

/-- The finished keys. -/
theorem row_v218 (t : Fin 2048) (d : Nat) (hd : d < 128) :
    row3 (T := 2048) (val_main_v218 (F := Ideal) x0 x2 x3 x6 x7 x8) t d
      = turn (line (T := 2048) (n := 64) x2 t) (line (T := 2048) (n := 64) x3 t) (normed x0 x6 x7 x8 t) d := by
  have e : row3 (T := 2048) (val_main_v218 (F := Ideal) x0 x2 x3 x6 x7 x8) t d
      = row3 (T := 2048) (val_main_v216 (F := Ideal) x0 x2 x3 x6 x7 x8) t d * Ideal.ofBits .f32 0x3DB504F3#32 := by
    rw [row3_lt _ _ _ hd, row3_lt _ _ _ hd]
    exact congrArg (_ * ·) (val_main_v217_apply (F := Ideal) _)
  rw [e, k_stage6 x0 x2 x3 x6 x7 x8 t d hd]
  unfold turn
  refine congrArg (· * _) (hadN_congr (m := 1) (fun j hj => ?_) 7 (by decide) d hd)
  exact row_v60 x0 x2 x3 x6 x7 x8 t j hj

end Cert.RefRead
-- ==== Proof.RefScore.lean ====
/- The reference's scores and their first 1024 in order. -/
module

public import proofs.«01_k».proof.Proof.RefTurn

@[expose] public section

set_option maxRecDepth 16384

noncomputable section

namespace Cert.RefRead
open Idealize.ShloMosaic Idealize.ShloMosaic.ValueIdx Cert.Spec Cert.RefHad
open Cert.ReferenceIdeal Cert.ReferenceIdeal.Gen Cert.ReferenceIdeal.Read

variable (x0 : FVec Ideal S1x2048x2048 .f32) (x1 : FVec Ideal S1x2048x1536 .f32) (x2 x3 : FVec Ideal S1x2048x64 .f32)
  (x4 : FVec Ideal S1x2048x2048 .f32) (x5 : FVec Ideal S1536x2048 .f32) (x6 : FVec Ideal S2048x128 .f32)
  (x7 x8 : FVec Ideal S128 .f32) (x9 : FVec Ideal S2048x16 .f32)

/-- The finished query, key and weights of a position. -/
abbrev qry (t : Fin 2048) : ℕ → EReal :=
  turn (line (T := 2048) (n := 64) x2 t) (line (T := 2048) (n := 64) x3 t) (line (T := 2048) (n := 2048) (val_main_v0 (F := Ideal) x1 x5) t)

abbrev key (t : Fin 2048) : ℕ → EReal :=
  turn (line (T := 2048) (n := 64) x2 t) (line (T := 2048) (n := 64) x3 t) (normed x0 x6 x7 x8 t)

abbrev wgt (t : Fin 2048) (h : ℕ) : EReal :=
  line (T := 2048) (n := 16) (val_main_v219 (F := Ideal) x0 x9) t h * Ideal.ofBits .f32 0x3CB504F3#32

theorem v222_at (t c : Fin 2048) (h : Fin 16) :
    val_main_v222 (F := Ideal) x0 x1 x2 x3 x5 x6 x7 x8 (ix4 (0 : Fin 1) t h c)
      = ∑ d ∈ Finset.range 128, qry x1 x2 x3 x5 t (128 * h.val + d) * key x0 x2 x3 x6 x7 x8 c d := by
  rw [Finset.sum_range]
  refine (val_main_v222_apply x0 x1 x2 x3 x5 x6 x7 x8 _).trans (Finset.sum_congr rfl fun d _ => ?_)
  refine congrArg₂ (· * ·) ?_ ?_
  · refine Eq.trans ?_ (row_v139 x1 x2 x3 x5 t h d.val d.isLt)
    rw [row4_lt _ _ _ _ d.isLt]
    refine congrArg (val_main_v139 (F := Ideal) x1 x2 x3 x5) ?_
    funext a
    match a with
    | ⟨0, _⟩ => rfl
    | ⟨1, _⟩ => rfl
    | ⟨2, _⟩ => rfl
    | ⟨3, _⟩ => rfl
  · refine Eq.trans ?_ (row_v218 x0 x2 x3 x6 x7 x8 c d.val d.isLt)
    rw [row3_lt _ _ _ d.isLt]
    refine congrArg (val_main_v218 (F := Ideal) x0 x2 x3 x6 x7 x8) ?_
    funext a
    match a with
    | ⟨0, _⟩ => rfl
    | ⟨1, _⟩ => rfl
    | ⟨2, _⟩ => rfl

theorem v227_at (t c : Fin 2048) (h : Fin 16) :
    val_main_v227 (F := Ideal) x0 x9 (ix4 (0 : Fin 1) t h c)
      = line (T := 2048) (n := 16) (val_main_v219 (F := Ideal) x0 x9) t h.val * Ideal.ofBits .f32 0x3E800000#32 := by
  rw [line_lt (T := 2048) (n := 16) _ t _ h.isLt]
  refine (val_main_v227_apply (F := Ideal) x0 x9 _).trans ((val_main_v226_apply (F := Ideal) x0 x9 _).trans ?_)
  refine Eq.trans (congrArg (val_main_v221 (F := Ideal) x0 x9) (a₂ := ix3 (0 : Fin 1) t h) ?_) ?_
  · funext a
    match a with
    | ⟨0, _⟩ => rfl
    | ⟨1, _⟩ => rfl
    | ⟨2, _⟩ => rfl
  · exact congrArg (_ * ·) (val_main_v220_apply (F := Ideal) _)

theorem v228_at (t c : Fin 2048) (h : Fin 16) :
    val_main_v228 (F := Ideal) x0 x1 x2 x3 x5 x6 x7 x8 x9 (ix4 (0 : Fin 1) t h c)
      = max (∑ d ∈ Finset.range 128, qry x1 x2 x3 x5 t (128 * h.val + d) * key x0 x2 x3 x6 x7 x8 c d) 0 * wgt x0 x9 t h.val := by
  have e : val_main_v228 (F := Ideal) x0 x1 x2 x3 x5 x6 x7 x8 x9 (ix4 (0 : Fin 1) t h c)
      = (max (val_main_v222 (F := Ideal) x0 x1 x2 x3 x5 x6 x7 x8 (ix4 (0 : Fin 1) t h c)) (Ideal.ofBits .f32 0x00000000#32)
          * Ideal.ofBits .f32 0x3DB504F3#32) * val_main_v227 (F := Ideal) x0 x9 (ix4 (0 : Fin 1) t h c) :=
    congrArg₂ (fun a b => (max (val_main_v222 (F := Ideal) x0 x1 x2 x3 x5 x6 x7 x8 (ix4 (0 : Fin 1) t h c)) a * b)
      * val_main_v227 (F := Ideal) x0 x9 (ix4 (0 : Fin 1) t h c))
      (val_main_call0_v0_apply (F := Ideal) (ix4 (0 : Fin 1) t h c)) (val_main_v224_apply (F := Ideal) (ix4 (0 : Fin 1) t h c))
  rw [e, v222_at, v227_at, Ideal.ofBits_zero_f32]
  unfold wgt
  rw [word_quarter, mul_assoc, mul_left_comm (Ideal.ofBits .f32 0x3DB504F3#32)]

/-- The scores before the mask. -/
theorem v229_at (t c : Fin 2048) :
    val_main_v229 (F := Ideal) x0 x1 x2 x3 x5 x6 x7 x8 x9 (ix3 (0 : Fin 1) t c)
      = Spec.score (qry x1 x2 x3 x5 t) (key x0 x2 x3 x6 x7 x8 c) (wgt x0 x9 t) := by
  unfold Spec.score
  rw [Finset.sum_range]
  refine (val_main_v229_apply x0 x1 x2 x3 x5 x6 x7 x8 x9 _).trans ?_
  refine Eq.trans (congrArg (· + _) Ideal.ofBits_zero_f32) ((zero_add _).trans (Finset.sum_congr rfl fun h _ => ?_))
  refine Eq.trans (congrArg _ ?_) (v228_at x0 x1 x2 x3 x5 x6 x7 x8 x9 t c h)
  funext a
  match a with
  | ⟨0, _⟩ => rfl
  | ⟨1, _⟩ => rfl
  | ⟨2, _⟩ => rfl
  | ⟨3, _⟩ => rfl

/-- With a zero mask these are the scores. -/
theorem v230_at (h4 : ∀ i, x4 i = 0) (t c : Fin 2048) :
    val_main_v230 (F := Ideal) x0 x1 x2 x3 x4 x5 x6 x7 x8 x9 (ix3 (0 : Fin 1) t c)
      = Spec.score (qry x1 x2 x3 x5 t) (key x0 x2 x3 x6 x7 x8 c) (wgt x0 x9 t) := by
  rw [← v229_at]
  refine Eq.trans (congrArg (val_main_v229 (F := Ideal) x0 x1 x2 x3 x5 x6 x7 x8 x9 (ix3 (0 : Fin 1) t c) + ·) (h4 _)) (add_zero _)

/-! ## The first 1024 -/

theorem along_2 (t j k : Fin 2048) : (ix3 (0 : Fin 1) t j : S1x2048x2048.Idx).along 2 k = ix3 (0 : Fin 1) t k := by
  funext a
  match a with
  | ⟨0, _⟩ => rfl
  | ⟨1, _⟩ => rfl
  | ⟨2, _⟩ => rfl

/-- The order in which a row is taken. -/
def rank (f : Fin 2048 → EReal) (j : Fin 2048) : Fin 2048 := sortedFrom (fun k k' => decide (f k' < f k)) j

/-- The entry of a row standing at a given place. -/
theorem val_along (v : FVec Ideal S1x2048x2048 .f32) (t j K L : Fin 2048) (h : K = L) :
    v ((ix3 (0 : Fin 1) t j : S1x2048x2048.Idx).along 2 K) = v (ix3 (0 : Fin 1) t L) := by
  subst h
  rw [along_2]

/-- A sort read at a place, along any axis. -/
theorem sort2_at {s : Shape} {d : Nat} (hd : d < s.rank) {α β : Type} (cmp : α × β → α × β → BitVec 1) (x : s.Idx → α) (y : s.Idx → β)
    (i : s.Idx) :
    (Host.sort2 s d cmp x y).1 i = x (i.along ⟨d, hd⟩ (sortedFrom (fun k k' => cmp (x (i.along ⟨d, hd⟩ k), y (i.along ⟨d, hd⟩ k))
        (x (i.along ⟨d, hd⟩ k'), y (i.along ⟨d, hd⟩ k')) == 1#1) (i ⟨d, hd⟩)))
    ∧ (Host.sort2 s d cmp x y).2 i = y (i.along ⟨d, hd⟩ (sortedFrom (fun k k' => cmp (x (i.along ⟨d, hd⟩ k), y (i.along ⟨d, hd⟩ k))
        (x (i.along ⟨d, hd⟩ k'), y (i.along ⟨d, hd⟩ k')) == 1#1) (i ⟨d, hd⟩))) := by
  unfold Host.sort2
  rw [dif_pos hd]
  exact ⟨rfl, rfl⟩

/-- The sorted place along the last axis of an array of rows. -/
theorem along_sorted (v : FVec Ideal S1x2048x2048 .f32) (t j : Fin 2048) (p : Fin 2048 → Fin 2048 → Bool)
    (hp : ∀ k k', p k k' = decide (v (ix3 (0 : Fin 1) t k') < v (ix3 (0 : Fin 1) t k))) :
    (ix3 (0 : Fin 1) t j : S1x2048x2048.Idx).along 2 (show Fin 2048 from sortedFrom (n := 2048) p j)
      = ix3 (0 : Fin 1) t (rank (fun k => v (ix3 (0 : Fin 1) t k)) j) := by
  have hp' : p = fun k k' => decide (v (ix3 (0 : Fin 1) t k') < v (ix3 (0 : Fin 1) t k)) := funext fun k => funext fun k' => hp k k'
  subst hp'
  exact along_2 t j (rank (fun k => v (ix3 (0 : Fin 1) t k)) j)

/-- The comparison of the sort, as the order. -/
theorem gt_at (v : FVec Ideal S1x2048x2048 .f32) (t j k k' : Fin 2048) :
    (FloatOps.cmpfTotal (F := Ideal) (φ := .f32) .gt (v ((ix3 (0 : Fin 1) t j : S1x2048x2048.Idx).along 2 k))
        (v ((ix3 (0 : Fin 1) t j : S1x2048x2048.Idx).along 2 k')) == 1#1)
      = decide (v (ix3 (0 : Fin 1) t k') < v (ix3 (0 : Fin 1) t k)) := by
  rw [along_2, along_2]
  show (BitVec.ofBool (decide (v (ix3 (0 : Fin 1) t k') < v (ix3 (0 : Fin 1) t k))) == 1#1) = _
  cases decide (v (ix3 (0 : Fin 1) t k') < v (ix3 (0 : Fin 1) t k)) <;> rfl

/-- A sort of the rows carrying a second array along: both are read at the sorted places. -/
theorem sort_at {β : Type} (v : FVec Ideal S1x2048x2048 .f32) (y : S1x2048x2048.Idx → β) (t j : Fin 2048) :
    (Host.sort2 S1x2048x2048 2 (fun l r => FloatOps.cmpfTotal (F := Ideal) (φ := .f32) .gt l.1 r.1) v y).1 (ix3 (0 : Fin 1) t j)
        = v (ix3 (0 : Fin 1) t (rank (fun k => v (ix3 (0 : Fin 1) t k)) j))
    ∧ (Host.sort2 S1x2048x2048 2 (fun l r => FloatOps.cmpfTotal (F := Ideal) (φ := .f32) .gt l.1 r.1) v y).2 (ix3 (0 : Fin 1) t j)
        = y (ix3 (0 : Fin 1) t (rank (fun k => v (ix3 (0 : Fin 1) t k)) j)) := by
  have h := along_sorted v t j _ (gt_at v t j)
  have g := sort2_at (s := S1x2048x2048) (d := 2) (by decide) (fun l r => FloatOps.cmpfTotal (F := Ideal) (φ := .f32) .gt l.1 r.1) v y
    (ix3 (0 : Fin 1) t j)
  exact ⟨g.1.trans (congrArg v h), g.2.trans (congrArg y h)⟩

/-- The first 1024 of a sorted row, and their places. -/
theorem topK_at (v : FVec Ideal S1x2048x2048 .f32) (t : Fin 2048) (j : Fin 1024) :
    (Host.topK S1x2048x1024 2 (FloatOps.cmpfTotal (F := Ideal) (φ := .f32) .gt) v sliceFits_S1x2048x2048_S1x2048x1024).1 (ix3 (0 : Fin 1) t j)
        = v (ix3 (0 : Fin 1) t (rank (fun k => v (ix3 (0 : Fin 1) t k)) ⟨j.val, by have := j.isLt; omega⟩))
    ∧ (Host.topK S1x2048x1024 2 (FloatOps.cmpfTotal (F := Ideal) (φ := .f32) .gt) v sliceFits_S1x2048x2048_S1x2048x1024).2 (ix3 (0 : Fin 1) t j)
        = BitVec.ofNat 32 (rank (fun k => v (ix3 (0 : Fin 1) t k)) ⟨j.val, by have := j.isLt; omega⟩).val := by
  have hj : j.val < 2048 := by have := j.isLt; omega
  have hs : ∀ {α : Type} (y : S1x2048x2048.Idx → α),
      extractStridedSlice S1x2048x1024 (fun _ => 0) y sliceFits_S1x2048x2048_S1x2048x1024 (ix3 (0 : Fin 1) t j)
        = y (ix3 (0 : Fin 1) t ⟨j.val, hj⟩) := by
    intro α y
    refine extractStridedSlice_apply _ y _ _ _ fun a => ?_
    match a with
    | ⟨0, _⟩ => rfl
    | ⟨1, _⟩ => exact (Nat.zero_add _).symm
    | ⟨2, _⟩ => exact (Nat.zero_add _).symm
  have g := sort_at v (fun i => if hd : 2 < S1x2048x2048.rank then iotaInDim S1x2048x2048 32 ⟨2, hd⟩ i else 0#32) t ⟨j.val, hj⟩
  generalize rank (fun k => v (ix3 (0 : Fin 1) t k)) ⟨j.val, hj⟩ = K at g ⊢
  exact ⟨(hs _).trans g.1, ((hs _).trans g.2).trans rfl⟩

end Cert.RefRead
-- ==== Proof.Match.lean ====
/- The kernel's scores are the problem's: the rows its calls work on are the rows of the arguments. -/
module

public import proofs.«01_k».proof.Proof.Regions
public import proofs.«01_k».proof.Proof.RefScore

@[expose] public section

set_option maxRecDepth 16384

noncomputable section

namespace Cert.Match
open Idealize.ShloMosaic Idealize.ShloMosaic.ValueIdx
open Cert.Rows Cert.Lanes Cert.RefRead

/-! ## Rows of the reshaped arguments -/

theorem row_cast {T n : Nat} (x : FVec Ideal (⟨3, ![1, T, n]⟩ : Shape) .f32)
    (h : (⟨3, ![1, T, n]⟩ : Shape).ShapeCasts (⟨2, ![T, n]⟩ : Shape)) (t : Fin T) :
    row (m := T) (n := n) (shapeCast (⟨2, ![T, n]⟩ : Shape) x h) t = line x t := by
  funext j
  unfold row line
  by_cases hj : j < n
  · rw [dif_pos hj, dif_pos hj]
    exact shapeCast_1ab_ab_apply x h t ⟨j, hj⟩
  · rw [dif_neg hj, dif_neg hj]

theorem row_list {n : Nat} (x : FVec Ideal (⟨1, ![n]⟩ : Shape) .f32)
    (h : (⟨1, ![n]⟩ : Shape).ShapeCasts (⟨2, ![1, n]⟩ : Shape)) :
    row (m := 1) (n := n) (shapeCast (⟨2, ![1, n]⟩ : Shape) x h) 0 = list x := by
  funext j
  unfold row list
  by_cases hj : j < n
  · rw [dif_pos hj, dif_pos hj]
    exact shapeCast_a_1a_apply x h 0 ⟨j, hj⟩
  · rw [dif_neg hj, dif_neg hj]

/-- A matrix's row and a row of a batch of one agree when their entries do. -/
theorem row_line {T n : Nat} (x : FVec Ideal (mat T n) .f32) (y : FVec Ideal (⟨3, ![1, T, n]⟩ : Shape) .f32) (t : Fin T)
    (h : ∀ j, x (ix2 t j) = y (ix3 (0 : Fin 1) t j)) : row x t = line y t := by
  funext j
  unfold row line
  by_cases hj : j < n
  · rw [dif_pos hj, dif_pos hj, h]
  · rw [dif_neg hj, dif_neg hj]

/-! ## The three projections -/

section Arrays
open Cert.KernelIdeal

variable (x0 : FVec Ideal S1x2048x2048 .f32) (x1 : FVec Ideal S1x2048x1536 .f32) (x2 x3 : FVec Ideal S1x2048x64 .f32)
  (x5 : FVec Ideal S1536x2048 .f32) (x6 : FVec Ideal S2048x128 .f32)
  (x7 x8 : FVec Ideal S128 .f32) (x9 : FVec Ideal S2048x16 .f32)
variable (h0 : S1x2048x2048.ShapeCasts S2048x2048) (h1 : S1x2048x1536.ShapeCasts S2048x1536)
  (h2 : S1x2048x64.ShapeCasts S2048x64) (h7 : S128.ShapeCasts S1x128)

theorem query_line (t : Fin 2048) :
    row (m := 2048) (n := 2048) (Regions.project x5 (shapeCast S2048x1536 x1 h1)) t
      = line (T := 2048) (n := 2048) (Cert.ReferenceIdeal.Read.val_main_v0 (F := Ideal) x1 x5) t := by
  refine row_line (T := 2048) (n := 2048) _ _ t fun j => ?_
  refine Eq.trans (Finset.sum_congr rfl fun k _ => ?_) (Cert.ReferenceIdeal.Read.val_main_v0_apply x1 x5 _).symm
  refine (mul_comm _ _).trans (congrArg₂ (· * ·) ((shapeCast_1ab_ab_apply x1 h1 t k).trans (congrArg x1 ?_)) (congrArg x5 ?_))
  · funext a
    match a with
    | ⟨0, _⟩ => rfl
    | ⟨1, _⟩ => rfl
    | ⟨2, _⟩ => rfl
  · funext a
    match a with
    | ⟨0, _⟩ => rfl
    | ⟨1, _⟩ => rfl

theorem key_line (t : Fin 2048) :
    row (m := 2048) (n := 128) (Key.proj (F := Ideal) (shapeCast S2048x2048 x0 h0) x6) t
      = line (T := 2048) (n := 128) (Cert.ReferenceIdeal.Read.val_main_v4 (F := Ideal) x0 x6) t := by
  refine row_line (T := 2048) (n := 128) _ _ t fun j => ?_
  refine (Read.key_proj _ _ t j).trans ?_
  refine Eq.trans (Finset.sum_congr rfl fun k _ => ?_) (Cert.ReferenceIdeal.Read.val_main_v4_apply x0 x6 _).symm
  refine (mul_comm _ _).trans (congrArg₂ (· * ·) ((shapeCast_1ab_ab_apply x0 h0 t k).trans (congrArg x0 ?_)) (congrArg x6 ?_))
  · funext a
    match a with
    | ⟨0, _⟩ => rfl
    | ⟨1, _⟩ => rfl
    | ⟨2, _⟩ => rfl
  · funext a
    match a with
    | ⟨0, _⟩ => rfl
    | ⟨1, _⟩ => rfl

theorem weight_sum (t : Fin 2048) (h : Fin 16) :
    (∑ i : Fin 2048, x9 (ix2 i h) * (shapeCast S2048x2048 x0 h0) (ix2 t i))
      = line (T := 2048) (n := 16) (Cert.ReferenceIdeal.Read.val_main_v219 (F := Ideal) x0 x9) t h.val := by
  rw [line_lt (T := 2048) (n := 16) _ t _ h.isLt]
  refine Eq.trans (Finset.sum_congr rfl fun k _ => ?_) (Cert.ReferenceIdeal.Read.val_main_v219_apply x0 x9 _).symm
  refine (mul_comm _ _).trans (congrArg₂ (· * ·) ((shapeCast_1ab_ab_apply x0 h0 t k).trans (congrArg x0 ?_)) (congrArg x9 ?_))
  · funext a
    match a with
    | ⟨0, _⟩ => rfl
    | ⟨1, _⟩ => rfl
    | ⟨2, _⟩ => rfl
  · funext a
    match a with
    | ⟨0, _⟩ => rfl
    | ⟨1, _⟩ => rfl

theorem weight_line (t : Fin 2048) (h : Nat) (hh : h < 16) :
    row (m := 2048) (n := 16) (Key.weight (F := Ideal) x9 (shapeCast S2048x2048 x0 h0)) t h = wgt x0 x9 t h := by
  rw [row_lt _ _ _ hh]
  refine (Read.weight_at _ _ t ⟨h, hh⟩).trans ?_
  exact congrArg (· * _) (weight_sum x0 x9 h0 t ⟨h, hh⟩)

theorem key_row (t : Fin 2048) (j : Nat) (hj : j < 128) :
    row (m := 2048) (n := 128) (Key.key (F := Ideal) (shapeCast S2048x2048 x0 h0) x6 (shapeCast S1x128 x7 h7) (shapeCast S1x128 x8 h7)
        (shapeCast S2048x64 x2 h2) (shapeCast S2048x64 x3 h2)) t j
      = key x0 x2 x3 x6 x7 x8 t j := by
  refine (Read.row_key _ _ _ _ _ _ t j hj).trans ?_
  rw [key_line x0 x6 h0 t]
  have e2 := row_cast (T := 2048) (n := 64) x2 h2 t
  have e3 := row_cast (T := 2048) (n := 64) x3 h2 t
  have e7 := row_list (n := 128) x7 h7
  have e8 := row_list (n := 128) x8 h7
  rw [e2, e3, e7, e8]

/-- Scores agree when query, key and weights do. -/
theorem score_congr {q k k' w w' : ℕ → EReal} (hk : ∀ d < 128, k d = k' d) (hw : ∀ h < 16, w h = w' h) :
    Spec.score q k w = Spec.score q k' w' := by
  unfold Spec.score
  refine Finset.sum_congr rfl fun h hh => ?_
  rw [hw h (Finset.mem_range.mp hh)]
  refine congrArg (fun x => max x 0 * w' h) (Finset.sum_congr rfl fun d hd => ?_)
  rw [hk d (Finset.mem_range.mp hd)]

/-- One score of the kernel. -/
theorem score_line (t c : Fin 2048) :
    Spec.score (Spec.turn (row (m := 2048) (n := 64) (shapeCast S2048x64 x2 h2) t) (row (m := 2048) (n := 64) (shapeCast S2048x64 x3 h2) t)
        (row (m := 2048) (n := 2048) (Regions.project x5 (shapeCast S2048x1536 x1 h1)) t))
      (row (m := 2048) (n := 128) (Key.key (F := Ideal) (shapeCast S2048x2048 x0 h0) x6 (shapeCast S1x128 x7 h7) (shapeCast S1x128 x8 h7)
        (shapeCast S2048x64 x2 h2) (shapeCast S2048x64 x3 h2)) c)
      (row (m := 2048) (n := 16) (Key.weight (F := Ideal) x9 (shapeCast S2048x2048 x0 h0)) t)
      = Spec.score (qry x1 x2 x3 x5 t) (key x0 x2 x3 x6 x7 x8 c) (wgt x0 x9 t) := by
  refine (score_congr (key_row x0 x2 x3 x6 x7 x8 h0 h2 h7 c) (weight_line x0 x9 h0 t)).trans ?_
  have e2 := row_cast (T := 2048) (n := 64) x2 h2 t
  have e3 := row_cast (T := 2048) (n := 64) x3 h2 t
  rw [e2, e3, query_line x1 x5 h1 t]

end Arrays

end Cert.Match
-- ==== Proof.Fold.lean ====
/- The kernel's result arrays from the arguments: the contents of the buffers followed from launch to the last operation. -/
module

public import proofs.«01_k».proof.Proof.Match
public import Idealize.ShloMosaic.Lib.StableHlo.Run

@[expose] public section

set_option maxRecDepth 16384

noncomputable section

namespace Cert.Fold
open Idealize.ShloMosaic Idealize.ShloMosaic.TcCoe Idealize.ShloMosaic.ValueIdx Idealize.SL.Sem
open Cert.KernelIdeal Cert.KernelIdeal.Gen Cert.Rows Cert.Lanes

variable (m : (ℓ : Loc nD τ sig) → Buf (Elt Ideal) ℓ) (ρ : Dev nD → PrngReg) (c : Dev nD)

/-! ## The arguments -/

abbrev a0 : FVec Ideal S1x2048x2048 .f32 := m ((c : Thread nD τ).loc main_arg0)
abbrev a1 : FVec Ideal S1x2048x1536 .f32 := m ((c : Thread nD τ).loc main_arg1)
abbrev a2 : FVec Ideal S1x2048x64 .f32 := m ((c : Thread nD τ).loc main_arg2)
abbrev a3 : FVec Ideal S1x2048x64 .f32 := m ((c : Thread nD τ).loc main_arg3)
abbrev a4 : FVec Ideal S1x2048x2048 .f32 := m ((c : Thread nD τ).loc main_arg4)
abbrev a5 : FVec Ideal S1536x2048 .f32 := m ((c : Thread nD τ).loc main_arg5)
abbrev a6 : FVec Ideal S2048x128 .f32 := m ((c : Thread nD τ).loc main_arg6)
abbrev a7 : FVec Ideal S128 .f32 := m ((c : Thread nD τ).loc main_arg7)
abbrev a8 : FVec Ideal S128 .f32 := m ((c : Thread nD τ).loc main_arg8)
abbrev a9 : FVec Ideal S2048x16 .f32 := m ((c : Thread nD τ).loc main_arg9)

/-! ## After the reshapes -/

theorem W1_v0 : W1 m ρ c (Proc.devRef .tc main_v0) = shapeCast S2048x2048 (a0 m c) shapeCasts_S1x2048x2048_S2048x2048 := by
  simp only [StableHlo.after_cons, StableHlo.after_nil]
  rw [StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide),
    StableHlo.reshape_result_ne _ _ _ _ _ _ _ (by decide), StableHlo.reshape_result]
  rfl

theorem W1_v1 : W1 m ρ c (Proc.devRef .tc main_v1) = shapeCast S2048x1536 (a1 m c) shapeCasts_S1x2048x1536_S2048x1536 := by
  simp only [StableHlo.after_cons, StableHlo.after_nil]
  rw [StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide),
    StableHlo.reshape_result, StableHlo.reshape_result_ne _ _ _ _ _ _ _ (by decide)]
  rfl

theorem W1_v2 : W1 m ρ c (Proc.devRef .tc main_v2) = shapeCast S2048x64 (a2 m c) shapeCasts_S1x2048x64_S2048x64 := by
  simp only [StableHlo.after_cons, StableHlo.after_nil]
  rw [StableHlo.reshape_result_ne _ _ _ _ _ _ _ (by decide), StableHlo.reshape_result_ne _ _ _ _ _ _ _ (by decide),
    StableHlo.reshape_result_ne _ _ _ _ _ _ _ (by decide),
    StableHlo.reshape_result, StableHlo.reshape_result_ne _ _ _ _ _ _ _ (by decide), StableHlo.reshape_result_ne _ _ _ _ _ _ _ (by decide)]
  rfl

theorem W1_v3 : W1 m ρ c (Proc.devRef .tc main_v3) = shapeCast S2048x64 (a3 m c) shapeCasts_S1x2048x64_S2048x64 := by
  simp only [StableHlo.after_cons, StableHlo.after_nil]
  rw [StableHlo.reshape_result_ne _ _ _ _ _ _ _ (by decide), StableHlo.reshape_result_ne _ _ _ _ _ _ _ (by decide),
    StableHlo.reshape_result, StableHlo.reshape_result_ne _ _ _ _ _ _ _ (by decide), StableHlo.reshape_result_ne _ _ _ _ _ _ _ (by decide),
    StableHlo.reshape_result_ne _ _ _ _ _ _ _ (by decide)]
  rfl

theorem W1_v4 : W1 m ρ c (Proc.devRef .tc main_v4) = shapeCast S1x128 (a7 m c) shapeCasts_S128_S1x128 := by
  simp only [StableHlo.after_cons, StableHlo.after_nil]
  rw [StableHlo.reshape_result_ne _ _ _ _ _ _ _ (by decide),
    StableHlo.reshape_result, StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide)]
  rfl

theorem W1_v5 : W1 m ρ c (Proc.devRef .tc main_v5) = shapeCast S1x128 (a8 m c) shapeCasts_S128_S1x128 := by
  simp only [StableHlo.after_cons, StableHlo.after_nil]
  rw [StableHlo.reshape_result, StableHlo.reshape_result_ne _ _ _ _ _ _ _ (by decide), StableHlo.reshape_result_ne _ _ _ _ _ _ _ (by decide),
    StableHlo.reshape_result_ne _ _ _ _ _ _ _ (by decide), StableHlo.reshape_result_ne _ _ _ _ _ _ _ (by decide),
    StableHlo.reshape_result_ne _ _ _ _ _ _ _ (by decide)]
  rfl

/-! ## After the key call -/

theorem W2_key : W2 m ρ c (Proc.devRef .tc main_v6_0)
    = Key.key (F := Ideal) (shapeCast S2048x2048 (a0 m c) shapeCasts_S1x2048x2048_S2048x2048) (a6 m c)
        (shapeCast S1x128 (a7 m c) shapeCasts_S128_S1x128) (shapeCast S1x128 (a8 m c) shapeCasts_S128_S1x128)
        (shapeCast S2048x64 (a2 m c) shapeCasts_S1x2048x64_S2048x64) (shapeCast S2048x64 (a3 m c) shapeCasts_S1x2048x64_S2048x64) := by
  refine (W2_arr m ρ c 7).trans ((Regions.final0_7 (V1 m ρ) c).trans ?_)
  show Key.key (F := Ideal) (W1 m ρ c (Proc.devRef .tc main_v0)) (W1 m ρ c (Proc.devRef .tc main_arg6)) (W1 m ρ c (Proc.devRef .tc main_v4))
    (W1 m ρ c (Proc.devRef .tc main_v5)) (W1 m ρ c (Proc.devRef .tc main_v2)) (W1 m ρ c (Proc.devRef .tc main_v3)) = _
  rw [W1_v0, W1_v2, W1_v3, W1_v4, W1_v5, W1_args m ρ c main_arg6 (by decide)]

theorem W2_weight : W2 m ρ c (Proc.devRef .tc main_v6_1)
    = Key.weight (F := Ideal) (a9 m c) (shapeCast S2048x2048 (a0 m c) shapeCasts_S1x2048x2048_S2048x2048) := by
  refine (W2_arr m ρ c 8).trans ((Regions.final0_8 (V1 m ρ) c).trans ?_)
  show Key.weight (F := Ideal) (W1 m ρ c (Proc.devRef .tc main_arg9)) (W1 m ρ c (Proc.devRef .tc main_v0)) = _
  rw [W1_v0, W1_args m ρ c main_arg9 (by decide)]

theorem W2_v1 : W2 m ρ c (Proc.devRef .tc main_v1) = shapeCast S2048x1536 (a1 m c) shapeCasts_S1x2048x1536_S2048x1536 :=
  (W2_of m ρ c main_v1 (by decide)).trans (W1_v1 m ρ c)

theorem W2_v2 : W2 m ρ c (Proc.devRef .tc main_v2) = shapeCast S2048x64 (a2 m c) shapeCasts_S1x2048x64_S2048x64 :=
  (W2_of m ρ c main_v2 (by decide)).trans (W1_v2 m ρ c)

theorem W2_v3 : W2 m ρ c (Proc.devRef .tc main_v3) = shapeCast S2048x64 (a3 m c) shapeCasts_S1x2048x64_S2048x64 :=
  (W2_of m ρ c main_v3 (by decide)).trans (W1_v3 m ρ c)

/-! ## After the score call -/

theorem W3_score (t k : Fin 2048) : (W3 m ρ c (Proc.devRef .tc main_v7) : FVec Ideal S2048x2048 .f32) (ix2 t k)
    = Spec.score (RefRead.qry (a1 m c) (a2 m c) (a3 m c) (a5 m c) t)
        (RefRead.key (a0 m c) (a2 m c) (a3 m c) (a6 m c) (a7 m c) (a8 m c) k) (RefRead.wgt (a0 m c) (a9 m c) t) := by
  refine (congrFun ((W3_arr m ρ c 6).trans (Regions.final1_6 (V2 m ρ) c)) (ix2 t k)).trans ?_
  refine Eq.trans ?_ (Match.score_line (a0 m c) (a1 m c) (a2 m c) (a3 m c) (a5 m c) (a6 m c) (a7 m c) (a8 m c) (a9 m c)
    shapeCasts_S1x2048x2048_S2048x2048 shapeCasts_S1x2048x1536_S2048x1536 shapeCasts_S1x2048x64_S2048x64 shapeCasts_S128_S1x128 t k)
  show Spec.score (Spec.turn (row (m := 2048) (n := 64) (W2 m ρ c (Proc.devRef .tc main_v2)) t)
      (row (m := 2048) (n := 64) (W2 m ρ c (Proc.devRef .tc main_v3)) t)
      (row (m := 2048) (n := 2048) (Regions.project (W2 m ρ c (Proc.devRef .tc main_arg5)) (W2 m ρ c (Proc.devRef .tc main_v1))) t))
    (row (m := 2048) (n := 128) (W2 m ρ c (Proc.devRef .tc main_v6_0)) k) (row (m := 2048) (n := 16) (W2 m ρ c (Proc.devRef .tc main_v6_1)) t) = _
  rw [W2_key, W2_weight, W2_v1, W2_v2, W2_v3, W2_args m ρ c main_arg5 (by decide)]

/-! ## The results -/

theorem W4_v8_0 : W4 m ρ c (Proc.devRef .tc main_v8_0) = Regions.firsts (W3 m ρ c (Proc.devRef .tc main_v7)) :=
  (W4_arr m ρ c 1).trans (Regions.final2_1 (V3 m ρ) c)

theorem W4_v8_1 : W4 m ρ c (Proc.devRef .tc main_v8_1) = Regions.spots (W3 m ρ c (Proc.devRef .tc main_v7)) :=
  (W4_arr m ρ c 2).trans (Regions.final2_2 (V3 m ρ) c)

end Cert.Fold
-- ==== Proof.Ends.lean ====
/- The kernel's two results are the problem's, when the mask is zero. -/
module

public import proofs.«01_k».proof.Proof.Fold
public import proofs.«01_k».proof.Defs
public import proofs.«01_k».proof.Proof.Gen.Pre_mask_zero

@[expose] public section

set_option maxRecDepth 16384

noncomputable section

namespace Cert.Ends
open Idealize.ShloMosaic Idealize.ShloMosaic.TcCoe Idealize.ShloMosaic.ValueIdx Idealize.SL.Sem
open Cert.KernelIdeal Cert.KernelIdeal.Gen Cert.Rows Cert.Lanes Cert.Fold

/-- A mask that passes the precondition holds zeros. -/
theorem mask_zero (x4 : FVec Ideal S1x2048x2048 .f32)
    (h : (cmpf .oeq x4 (broadcastInDim S1x2048x2048 ![] Cert.Pre_mask_zero.Gen.facts.bcast_S_S1x2048x2048
      (constant (F := Ideal) (⟨0, ![]⟩ : Shape) .f32 0x00000000#32)) : IVec S1x2048x2048 1) = fun _ => 1#1)
    (i : S1x2048x2048.Idx) : x4 i = 0 := by
  have e : BitVec.ofBool (decide (x4 i = Ideal.ofBits .f32 0x00000000#32)) = 1#1 := congrFun h i
  by_cases hx : x4 i = Ideal.ofBits .f32 0x00000000#32
  · exact hx.trans Ideal.ofBits_zero_f32
  · rw [decide_eq_false hx] at e
    exact absurd e (by decide)

variable (m : (ℓ : Loc nD τ sig) → Buf (Elt Ideal) ℓ) (ρ : Dev nD → PrngReg) (c : Dev nD)

/-- The reference's scores of the kernel's arguments. -/
abbrev refScores : FVec Ideal S1x2048x2048 .f32 :=
  Cert.ReferenceIdeal.Read.val_main_v230 (F := Ideal) (a0 m c) (a1 m c) (a2 m c) (a3 m c) (a4 m c) (a5 m c) (a6 m c) (a7 m c) (a8 m c) (a9 m c)

/-- The kernel's scores are those. -/
theorem scores_eq (h4 : ∀ i, a4 m c i = 0) (t k : Fin 2048) :
    (W3 m ρ c (Proc.devRef .tc main_v7) : FVec Ideal S2048x2048 .f32) (ix2 t k) = refScores m c (ix3 (0 : Fin 1) t k) :=
  (W3_score m ρ c t k).trans
    (RefRead.v230_at (a0 m c) (a1 m c) (a2 m c) (a3 m c) (a4 m c) (a5 m c) (a6 m c) (a7 m c) (a8 m c) (a9 m c) h4 t k).symm

/-- The selection of a square array is the selection of the same array under a leading axis. -/
theorem firsts_eq (x : FVec Ideal S2048x2048 .f32) (v : FVec Ideal S1x2048x2048 .f32)
    (h : ∀ t k, x (ix2 t k) = v (ix3 (0 : Fin 1) t k)) :
    Regions.firsts x
      = (Host.topK S1x2048x1024 2 (FloatOps.cmpfTotal (F := Ideal) (φ := .f32) .gt) v
          Cert.ReferenceIdeal.Gen.facts.sliceFits_S1x2048x2048_S1x2048x1024).1 := by
  funext i
  rw [eq_ix3 i]
  generalize i 1 = t
  generalize i 2 = j
  have h0 : i 0 = (0 : Fin 1) := Subsingleton.elim (α := Fin 1) _ _
  rw [h0]
  refine Eq.trans ?_ (RefRead.topK_at v t j).1.symm
  have e : (fun k => x (ix2 t k)) = fun k => v (ix3 (0 : Fin 1) t k) := funext fun k => h t k
  show x (ix2 t (Regions.rank (fun k => x (ix2 t k)) (Regions.low j))) = _
  rw [e]
  exact h t _

theorem spots_eq (x : FVec Ideal S2048x2048 .f32) (v : FVec Ideal S1x2048x2048 .f32)
    (h : ∀ t k, x (ix2 t k) = v (ix3 (0 : Fin 1) t k)) :
    Regions.spots x
      = (Host.topK S1x2048x1024 2 (FloatOps.cmpfTotal (F := Ideal) (φ := .f32) .gt) v
          Cert.ReferenceIdeal.Gen.facts.sliceFits_S1x2048x2048_S1x2048x1024).2 := by
  funext i
  rw [eq_ix3 i]
  generalize i 1 = t
  generalize i 2 = j
  have h0 : i 0 = (0 : Fin 1) := Subsingleton.elim (α := Fin 1) _ _
  rw [h0]
  refine Eq.trans ?_ (RefRead.topK_at v t j).2.symm
  have e : (fun k => x (ix2 t k)) = fun k => v (ix3 (0 : Fin 1) t k) := funext fun k => h t k
  show BitVec.ofNat 32 (Regions.rank (fun k => x (ix2 t k)) (Regions.low j)).val = _
  rw [e]
  rfl

/-- The first result. -/
theorem values_eq (h4 : ∀ i, a4 m c i = 0) :
    W4 m ρ c (Proc.devRef .tc main_v8_0)
      = Cert.ReferenceIdeal.Read.val_main_values (F := Ideal) (a0 m c) (a1 m c) (a2 m c) (a3 m c) (a4 m c) (a5 m c) (a6 m c) (a7 m c) (a8 m c) (a9 m c) :=
  (W4_v8_0 m ρ c).trans (firsts_eq _ _ (scores_eq m ρ c h4))

/-- The second. -/
theorem indices_eq (h4 : ∀ i, a4 m c i = 0) :
    W4 m ρ c (Proc.devRef .tc main_v8_1)
      = Cert.ReferenceIdeal.Read.val_main_indices (F := Ideal) (a0 m c) (a1 m c) (a2 m c) (a3 m c) (a4 m c) (a5 m c) (a6 m c) (a7 m c) (a8 m c) (a9 m c) :=
  (W4_v8_1 m ρ c).trans (spots_eq _ _ (scores_eq m ρ c h4))

end Cert.Ends
-- ==== Proof.KernelRun.lean ====
/- The kernel's run, with what its two results hold at the end. -/
module

public import proofs.«01_k».proof.Proof.Gen.KernelIdeal.Frame

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unfolding plain definitions in a type
set_option backward.isDefEq.respectTransparency.types false in
/-- From any memory with zero counters every weakly fair execution ends, with each result at the contents followed to the last
    operation and every argument as launched. -/
theorem run : θ_run defs (onTc (τ := τ) (main (F := F))) ⟨m, fun _ => 0, ρ⟩ (fun r => ∀ c : Dev nD,
      r.2.mem ((c.tc : Thread nD τ).loc main_v8_0) = W4 m ρ c (Proc.devRef .tc main_v8_0)
      ∧ r.2.mem ((c.tc : Thread nD τ).loc main_v8_1) = W4 m ρ c (Proc.devRef .tc main_v8_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v8_0 (by decide)), h c _ (mem_uc main_v8_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelRun
-- ==== Proof.Whole.lean ====
/- The claims about the runs: the reference leaves its arguments and its counters alone, and the kernel and the reference end with the
   same two results. -/
module

public import proofs.«01_k».proof.Proof.Ends
public import proofs.«01_k».proof.Proof.KernelRun
public import proofs.«01_k».proof.Proof.Gen.ReferenceIdeal.Run
public import Idealize.ShloMosaic.Lib.Quiescent

@[expose] public section

set_option maxRecDepth 16384

noncomputable section

namespace Cert.Whole
open Idealize.ShloMosaic Idealize.ShloMosaic.TcCoe Idealize.SL.Sem

/-- The reference ends with its arguments as launched and every counter at zero: it has no counter. -/
theorem reference_frame : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩)
    (Cert.ReferenceIdeal.Value.run (F := Ideal) m ρ)

/-- The kernel and the reference, from memories that agree on the arguments and a zero mask, end with the same results. -/
theorem same : Cert.algebraic_KernelIdeal_ReferenceIdeal_pre_mask_zero (hKernelIdeal := Cert.KernelIdeal.Gen.facts)
    (hReferenceIdeal := Cert.ReferenceIdeal.Gen.facts) (hPre_mask_zero := Cert.Pre_mask_zero.Gen.facts) := by
  intro m g m' g' hpre hargs
  have h4 : ∀ c i, Cert.Fold.a4 m c i = 0 := fun c => Cert.Ends.mask_zero (Cert.Fold.a4 m c) (hpre c)
  refine ⟨fun c => Cert.KernelIdeal.Gen.W4 m g c (Proc.devRef .tc Cert.KernelIdeal.main_v8_0),
    fun c => Cert.KernelIdeal.Gen.W4 m g c (Proc.devRef .tc Cert.KernelIdeal.main_v8_1), Cert.KernelRun.run (F := Ideal) m g, ?_⟩
  refine (θ_run _ _ _).mono (fun r h c => ?_) (Cert.ReferenceIdeal.Value.run (F := Ideal) m' g')
  obtain ⟨hv, hi, hrest⟩ := h c
  obtain ⟨e0, e1, e2, e3, e4, e5, e6, e7, e8, e9⟩ := hargs c
  refine ⟨?_, ?_, hrest⟩
  · refine hv.trans ((Cert.ReferenceIdeal.Read.val_main_values_eq (StableHlo.launchContents m' c)).trans
      (Eq.trans ?_ (Cert.Ends.values_eq m g c (h4 c)).symm))
    show Cert.ReferenceIdeal.Read.val_main_values (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) = _
    rw [e0, e1, e2, e3, e4, e5, e6, e7, e8, e9]
  · refine hi.trans ((Cert.ReferenceIdeal.Read.val_main_indices_eq (StableHlo.launchContents m' c)).trans
      (Eq.trans ?_ (Cert.Ends.indices_eq m g c (h4 c)).symm))
    show Cert.ReferenceIdeal.Read.val_main_indices (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) = _
    rw [e0, e1, e2, e3, e4, e5, e6, e7, e8, e9]

end Cert.Whole
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_mask_zero
public import proofs.«01_k».proof.Proof.Whole
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_mask_zero.Gen.facts,
  fun m ρ _ => Cert.Kernel.Gen.frame m ρ,
  fun m ρ _ => Cert.KernelIdeal.Gen.frame m ρ,
  fun m ρ _ => Cert.KernelIdeal.Gen.frame m ρ,
  Cert.Whole.reference_frame,
  fun m ρ _ => Cert.Whole.reference_frame m ρ trivial,
  trivial,
  Cert.Whole.same⟩

end Cert.Proof

end
